-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel) (hPre_pre := hPre_pre)
    ∧ quiescent_KernelIdeal (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal (hKernelIdeal := hKernelIdeal) (hReferenceIdeal := hReferenceIdeal) (hPre_pre := hPre_pre)
-- ==== Pre_pre.lean ====
abbrev S512x1024 : Shape := ⟨2, ![512, 1024]⟩
abbrev S256x512 : Shape := ⟨2, ![256, 512]⟩
abbrev S2x16384 : Shape := ⟨2, ![2, 16384]⟩
abbrev S1024x256 : Shape := ⟨2, ![1024, 256]⟩
abbrev S256 : Shape := ⟨1, ![256]⟩
abbrev S256x256 : Shape := ⟨2, ![256, 256]⟩
abbrev S512x256 : Shape := ⟨2, ![512, 256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S2x16384 : S_.BroadcastsInDim S2x16384 (![] : Fin 0 → Fin S2x16384.rank)
  reducesTo_S2x16384_S_d0_1 : S2x16384.ReducesTo [0, 1] S_
  h_S_ : 0 < S_.numel

variable [Facts]

def fn {F : FTy → Type} [FloatOps F] (main_arg0 : FVec F S512x1024 .f32) (main_arg1 : FVec F S256x512 .f32) (main_arg2 : IVec S2x16384 32) (main_arg3 : FVec F S1024x256 .f32) (main_arg4 : FVec F S256 .f32) (main_arg5 : FVec F S256x256 .f32) (main_arg6 : FVec F S256 .f32) (main_arg7 : FVec F S512x256 .f32) (main_arg8 : FVec F S256 .f32) (main_arg9 : FVec F S256x256 .f32) (main_arg10 : FVec F S256 .f32) (main_arg11 : FVec F S512x256 .f32) (main_arg12 : FVec F S256 .f32) (main_arg13 : FVec F S512x256 .f32) (main_arg14 : FVec F S256 .f32) (main_arg15 : FVec F S512x256 .f32) (main_arg16 : FVec F S256 .f32) (main_arg17 : FVec F S512x256 .f32) (main_arg18 : FVec F S256 .f32) (main_arg19 : FVec F S256x64 .f32) (main_arg20 : FVec F S64 .f32) (main_arg21 : FVec F S64x1 .f32) (main_arg22 : FVec F S1 .f32) : IVec S_ 1 :=
  let main_c : IVec S_ 32 := constantI S_ 32 0#32
  let main_v0 : IVec S2x16384 32 := broadcastInDim S2x16384 ![] bcast_S_S2x16384 main_c
  let main_v1 : IVec S2x16384 1 := cmpi .sge main_arg2 main_v0
  let main_c_0 : IVec S_ 32 := constantI S_ 32 256#32
  let main_v2 : IVec S2x16384 32 := broadcastInDim S2x16384 ![] bcast_S_S2x16384 main_c_0
  let main_v3 : IVec S2x16384 1 := cmpi .slt main_arg2 main_v2
  let main_v4 : IVec S2x16384 1 := andi main_v1 main_v3
  let main_c_1 : IVec S_ 1 := constantI S_ 1 1#1
  let main_v5 : IVec S_ 1 := (fun x v => Host.reduce IntOp.andi x v reducesTo_S2x16384_S_d0_1 h_S_) main_v4 main_c_1
  main_v5
-- ==== Kernel.lean ====
abbrev S512x1024 : Shape := ⟨2, ![512, 1024]⟩
abbrev S256x512 : Shape := ⟨2, ![256, 512]⟩
abbrev S2x16384 : Shape := ⟨2, ![2, 16384]⟩
abbrev S1024x256 : Shape := ⟨2, ![1024, 256]⟩
abbrev S256 : Shape := ⟨1, ![256]⟩
abbrev S256x256 : Shape := ⟨2, ![256, 256]⟩
abbrev S512x256 : Shape := ⟨2, ![512, 256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S1x256 : Shape := ⟨2, ![1, 256]⟩
abbrev S1x16384 : Shape := ⟨2, ![1, 16384]⟩
abbrev S16384 : Shape := ⟨1, ![16384]⟩
abbrev S2097152 : Shape := ⟨1, ![2097152]⟩
abbrev S512 : Shape := ⟨1, ![512]⟩
abbrev S65536 : Shape := ⟨1, ![65536]⟩
abbrev S_ : Shape := ⟨0, ![]⟩
abbrev S16 : Shape := ⟨1, ![16]⟩
abbrev S256x1 : Shape := ⟨2, ![256, 1]⟩
abbrev S32x256 : Shape := ⟨2, ![32, 256]⟩
abbrev S32x1x256 : Shape := ⟨3, ![32, 1, 256]⟩
abbrev S1x256x256 : Shape := ⟨3, ![1, 256, 256]⟩
abbrev S32x256x256 : Shape := ⟨3, ![32, 256, 256]⟩
abbrev S32x256x1 : Shape := ⟨3, ![32, 256, 1]⟩
abbrev S1x64 : Shape := ⟨2, ![1, 64]⟩
abbrev S1x1 : Shape := ⟨2, ![1, 1]⟩
abbrev S1x1x64 : Shape := ⟨3, ![1, 1, 64]⟩
abbrev S64x256 : Shape := ⟨2, ![64, 256]⟩
abbrev S64x1x256 : Shape := ⟨3, ![64, 1, 256]⟩
abbrev S64x256x256 : Shape := ⟨3, ![64, 256, 256]⟩
abbrev S16384x256 : Shape := ⟨2, ![16384, 256]⟩
abbrev S16384x64 : Shape := ⟨2, ![16384, 64]⟩
abbrev S64x256x64 : Shape := ⟨3, ![64, 256, 64]⟩

abbrev nBuf : Table → Nat
  | .hbm => 53
  | .local .tc .vmem => 39
  | .local .scVector .vmem => 3
  | _ => 0

abbrev bufTy : (tb : Table) → Fin (nBuf tb) → BufTy
  | .hbm, ⟨0, _⟩ => ⟨S512x1024, .f32⟩
  | .hbm, ⟨1, _⟩ => ⟨S256x512, .f32⟩
  | .hbm, ⟨2, _⟩ => ⟨S2x16384, .i32⟩
  | .hbm, ⟨3, _⟩ => ⟨S1024x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S512x256, .f32⟩
  | .hbm, ⟨12, _⟩ => ⟨S256, .f32⟩
  | .hbm, ⟨13, _⟩ => ⟨S512x256, .f32⟩
  | .hbm, ⟨14, _⟩ => ⟨S256, .f32⟩
  | .hbm, ⟨15, _⟩ => ⟨S512x256, .f32⟩
  | .hbm, ⟨16, _⟩ => ⟨S256, .f32⟩
  | .hbm, ⟨17, _⟩ => ⟨S512x256, .f32⟩
  | .hbm, ⟨18, _⟩ => ⟨S256, .f32⟩
  | .hbm, ⟨19, _⟩ => ⟨S256x64, .f32⟩
  | .hbm, ⟨20, _⟩ => ⟨S64, .f32⟩
  | .hbm, ⟨21, _⟩ => ⟨S64x1, .f32⟩
  | .hbm, ⟨22, _⟩ => ⟨S1, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S512x256, .f32⟩
  | .hbm, ⟨28, _⟩ => ⟨S256x256, .f32⟩
  | .hbm, ⟨29, _⟩ => ⟨S1x16384, .i32⟩
  | .hbm, ⟨30, _⟩ => ⟨S16384, .i32⟩
  | .hbm, ⟨31, _⟩ => ⟨S1x16384, .i32⟩
  | .hbm, ⟨32, _⟩ => ⟨S16384, .i32⟩
  | .hbm, ⟨33, _⟩ => ⟨S2097152, .f32⟩
  | .hbm, ⟨34, _⟩ => ⟨S256x256, .f32⟩
  | .hbm, ⟨35, _⟩ => ⟨S256x256, .f32⟩
  | .hbm, ⟨36, _⟩ => ⟨S1x256, .f32⟩
  | .hbm, ⟨37, _⟩ => ⟨S256x256, .f32⟩
  | .hbm, ⟨38, _⟩ => ⟨S256x256, .f32⟩
  | .hbm, ⟨39, _⟩ => ⟨S1x256, .f32⟩
  | .hbm, ⟨40, _⟩ => ⟨S256x256, .f32⟩
  | .hbm, ⟨41, _⟩ => ⟨S256x256, .f32⟩
  | .hbm, ⟨42, _⟩ => ⟨S1x256, .f32⟩
  | .hbm, ⟨43, _⟩ => ⟨S256x256, .f32⟩
  | .hbm, ⟨44, _⟩ => ⟨S256x256, .f32⟩
  | .hbm, ⟨45, _⟩ => ⟨S1x256, .f32⟩
  | .hbm, ⟨46, _⟩ => ⟨S512x256, .f32⟩
  | .hbm, ⟨47, _⟩ => ⟨S512x256, .f32⟩
  | .hbm, ⟨48, _⟩ => ⟨S256x256, .f32⟩
  | .hbm, ⟨49, _⟩ => ⟨S1x64, .f32⟩
  | .hbm, ⟨50, _⟩ => ⟨S1x1, .f32⟩
  | .hbm, ⟨51, _⟩ => ⟨S1x1x64, .f32⟩
  | .hbm, ⟨52, _⟩ => ⟨S512x256, .f32⟩
  | .local .tc .vmem, ⟨0, _⟩ => ⟨S512x1024, .f32⟩
  | .local .tc .vmem, ⟨1, _⟩ => ⟨S1024x256, .f32⟩
  | .local .tc .vmem, ⟨2, _⟩ => ⟨S1x256, .f32⟩
  | .local .tc .vmem, ⟨3, _⟩ => ⟨S256x256, .f32⟩
  | .local .tc .vmem, ⟨4, _⟩ => ⟨S1x256, .f32⟩
  | .local .tc .vmem, ⟨5, _⟩ => ⟨S256x512, .f32⟩
  | .local .tc .vmem, ⟨6, _⟩ => ⟨S512x256, .f32⟩
  | .local .tc .vmem, ⟨7, _⟩ => ⟨S1x256, .f32⟩
  | .local .tc .vmem, ⟨8, _⟩ => ⟨S256x256, .f32⟩
  | .local .tc .vmem, ⟨9, _⟩ => ⟨S1x256, .f32⟩
  | .local .tc .vmem, ⟨10, _⟩ => ⟨S512x256, .f32⟩
  | .local .tc .vmem, ⟨11, _⟩ => ⟨S256x256, .f32⟩
  | .local .tc .vmem, ⟨12, _⟩ => ⟨S512x256, .f32⟩
  | .local .tc .vmem, ⟨13, _⟩ => ⟨S256x256, .f32⟩
  | .local .tc .vmem, ⟨14, _⟩ => ⟨S2097152, .f32⟩
  | .local .tc .vmem, ⟨15, _⟩ => ⟨S256x256, .f32⟩
  | .local .tc .vmem, ⟨16, _⟩ => ⟨S256x256, .f32⟩
  | .local .tc .vmem, ⟨17, _⟩ => ⟨S1x256, .f32⟩
  | .local .tc .vmem, ⟨18, _⟩ => ⟨S256x256, .f32⟩
  | .local .tc .vmem, ⟨19, _⟩ => ⟨S256x256, .f32⟩
  | .local .tc .vmem, ⟨20, _⟩ => ⟨S1x256, .f32⟩
  | .local .tc .vmem, ⟨21, _⟩ => ⟨S256x256, .f32⟩
  | .local .tc .vmem, ⟨22, _⟩ => ⟨S256x256, .f32⟩
  | .local .tc .vmem, ⟨23, _⟩ => ⟨S1x256, .f32⟩
  | .local .tc .vmem, ⟨24, _⟩ => ⟨S256x256, .f32⟩
  | .local .tc .vmem, ⟨25, _⟩ => ⟨S256x256, .f32⟩
  | .local .tc .vmem, ⟨26, _⟩ => ⟨S1x256, .f32⟩
  | .local .tc .vmem, ⟨27, _⟩ => ⟨S512x256, .f32⟩
  | .local .tc .vmem, ⟨28, _⟩ => ⟨S512x256, .f32⟩
  | .local .tc .vmem, ⟨29, _⟩ => ⟨S256x256, .f32⟩
  | .local .tc .vmem, ⟨30, _⟩ => ⟨S64x256, .f32⟩
  | .local .tc .vmem, ⟨31, _⟩ => ⟨S64x256, .f32⟩
  | .local .tc .vmem, ⟨32, _⟩ => ⟨S256x256, .f32⟩
  | .local .tc .vmem, ⟨33, _⟩ => ⟨S256x64, .f32⟩
  | .local .tc .vmem, ⟨34, _⟩ => ⟨S1x64, .f32⟩
  | .local .tc .vmem, ⟨35, _⟩ => ⟨S1x1x64, .f32⟩
  | .local .tc .vmem, ⟨36, _⟩ => ⟨S1x1, .f32⟩
  | .local .tc .vmem, ⟨37, _⟩ => ⟨S64x256, .f32⟩
  | .local .tc .vmem, ⟨38, _⟩ => ⟨S64x256, .f32⟩
  | .local .scVector .vmem, ⟨0, _⟩ => ⟨S512, .i32⟩
  | .local .scVector .vmem, ⟨1, _⟩ => ⟨S512, .i32⟩
  | .local .scVector .vmem, ⟨2, _⟩ => ⟨S65536, .f32⟩
  | _, _ => ⟨S512x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | ⟨13, _⟩ => false
  | ⟨14, _⟩ => false
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTables nBuf rfl bufTy 4 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4_0 : Ref sig .tc := ⟨.hbm, 27, rfl⟩
abbrev main_v4_1 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22_0 : Ref sig .tc := ⟨.hbm, 46, rfl⟩
abbrev main_v22_1 : Ref sig .tc := ⟨.hbm, 47, rfl⟩
abbrev main_v22_2 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v6_scv : Ref sig .scVector := ⟨.hbm, 30, rfl⟩
abbrev main_v8_scv : Ref sig .scVector := ⟨.hbm, 32, rfl⟩
abbrev main_v9_scv : Ref sig .scVector := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg8_0 : Ref sig .tc := ⟨.vmem, 20, rfl⟩
abbrev cc2_stg9_0 : Ref sig .tc := ⟨.vmem, 21, rfl⟩
abbrev cc2_stg10_0 : Ref sig .tc := ⟨.vmem, 22, rfl⟩
abbrev cc2_stg11_0 : Ref sig .tc := ⟨.vmem, 23, rfl⟩
abbrev cc2_stg12_0 : Ref sig .tc := ⟨.vmem, 24, rfl⟩
abbrev cc2_stg13_0 : Ref sig .tc := ⟨.vmem, 25, rfl⟩
abbrev cc2_stg14_0 : Ref sig .tc := ⟨.vmem, 26, rfl⟩
abbrev cc2_stg15_0 : Ref sig .tc := ⟨.vmem, 27, rfl⟩
abbrev cc2_stg16_0 : Ref sig .tc := ⟨.vmem, 28, rfl⟩
abbrev cc2_stg17_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg6_1 : Ref sig .tc := ⟨.vmem, 38, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc2_sem0_0 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem9_0 : DmaSem sig := 24
abbrev cc2_sem10_0 : DmaSem sig := 25
abbrev cc2_sem11_0 : DmaSem sig := 26
abbrev cc2_sem12_0 : DmaSem sig := 27
abbrev cc2_sem13_0 : DmaSem sig := 28
abbrev cc2_sem14_0 : DmaSem sig := 29
abbrev cc2_sem15_0 : DmaSem sig := 30
abbrev cc2_sem16_0 : DmaSem sig := 31
abbrev cc2_sem17_0 : DmaSem sig := 32
abbrev cc3_sem0_0 : DmaSem sig := 33
abbrev cc3_sem0_1 : DmaSem sig := 34
abbrev cc3_sem1_0 : DmaSem sig := 35
abbrev cc3_sem2_0 : DmaSem sig := 36
abbrev cc3_sem3_0 : DmaSem sig := 37
abbrev cc3_sem4_0 : DmaSem sig := 38
abbrev cc3_sem5_0 : DmaSem sig := 39
abbrev cc3_sem6_0 : DmaSem sig := 40
abbrev cc3_sem6_1 : DmaSem sig := 41
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S512x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k1_t1_loop : Scf.Loop 32 :=
  let c0_i32_0 : BitVec 32 := 0#32
  let c256_i32 : BitVec 32 := 256#32
  let v4 : BitVec 32 := Scalar.addi c0_i32_0 c256_i32
  let c1_i32 : BitVec 32 := 1#32
  ⟨c0_i32_0, v4, c1_i32⟩
def k1_mult1 (k1_t1 : Fin k1_t1_loop.trips) : BitVec 32 :=
  let c0_i32_0 : BitVec 32 := 0#32
  let c1_i32 : BitVec 32 := 1#32
  let arg8 : BitVec 32 := Scf.iv c0_i32_0 c1_i32 k1_t1
  let c256_i32_7 : BitVec 32 := 256#32
  let v9 : BitVec 32 := Scalar.muli arg8 c256_i32_7
  let c0_i32_8 : BitVec 32 := 0#32
  let v10 : BitVec 32 := Scalar.addi v9 c0_i32_8
  v10
def k1_off2 (k1_t1 : Fin k1_t1_loop.trips) (c0_i32_8 : BitVec 32) : Fin 1 → Nat :=
  let c0_i32_0 : BitVec 32 := 0#32
  let c1_i32 : BitVec 32 := 1#32
  let arg8 : BitVec 32 := Scf.iv c0_i32_0 c1_i32 k1_t1
  let c256_i32_7 : BitVec 32 := 256#32
  let v9 : BitVec 32 := Scalar.muli arg8 c256_i32_7
  let v10 : BitVec 32 := Scalar.addi v9 c0_i32_8
  let v11 : BitVec 32 := v10
  let v12 : Index := Scalar.indexCast v11
  ![v12.toNat]
def k1_mult2 (k1_t1 : Fin k1_t1_loop.trips) : BitVec 32 :=
  let c0_i32_0 : BitVec 32 := 0#32
  let c1_i32 : BitVec 32 := 1#32
  let arg8 : BitVec 32 := Scf.iv c0_i32_0 c1_i32 k1_t1
  let c256_i32_9 : BitVec 32 := 256#32
  let v14 : BitVec 32 := Scalar.muli arg8 c256_i32_9
  let c16_i32 : BitVec 32 := 16#32
  let v15 : BitVec 32 := Scalar.addi v14 c16_i32
  v15
def k1_mult3 (k1_t1 : Fin k1_t1_loop.trips) : BitVec 32 :=
  let c0_i32_0 : BitVec 32 := 0#32
  let c1_i32 : BitVec 32 := 1#32
  let arg8 : BitVec 32 := Scf.iv c0_i32_0 c1_i32 k1_t1
  let c256_i32_10 : BitVec 32 := 256#32
  let v19 : BitVec 32 := Scalar.muli arg8 c256_i32_10
  let c32_i32_11 : BitVec 32 := 32#32
  let v20 : BitVec 32 := Scalar.addi v19 c32_i32_11
  v20
def k1_mult4 (k1_t1 : Fin k1_t1_loop.trips) : BitVec 32 :=
  let c0_i32_0 : BitVec 32 := 0#32
  let c1_i32 : BitVec 32 := 1#32
  let arg8 : BitVec 32 := Scf.iv c0_i32_0 c1_i32 k1_t1
  let c256_i32_12 : BitVec 32 := 256#32
  let v24 : BitVec 32 := Scalar.muli arg8 c256_i32_12
  let c48_i32 : BitVec 32 := 48#32
  let v25 : BitVec 32 := Scalar.addi v24 c48_i32
  v25
def k1_mult5 (k1_t1 : Fin k1_t1_loop.trips) : BitVec 32 :=
  let c0_i32_0 : BitVec 32 := 0#32
  let c1_i32 : BitVec 32 := 1#32
  let arg8 : BitVec 32 := Scf.iv c0_i32_0 c1_i32 k1_t1
  let c256_i32_13 : BitVec 32 := 256#32
  let v29 : BitVec 32 := Scalar.muli arg8 c256_i32_13
  let c64_i32 : BitVec 32 := 64#32
  let v30 : BitVec 32 := Scalar.addi v29 c64_i32
  v30
def k1_mult6 (k1_t1 : Fin k1_t1_loop.trips) : BitVec 32 :=
  let c0_i32_0 : BitVec 32 := 0#32
  let c1_i32 : BitVec 32 := 1#32
  let arg8 : BitVec 32 := Scf.iv c0_i32_0 c1_i32 k1_t1
  let c256_i32_14 : BitVec 32 := 256#32
  let v34 : BitVec 32 := Scalar.muli arg8 c256_i32_14
  let c80_i32 : BitVec 32 := 80#32
  let v35 : BitVec 32 := Scalar.addi v34 c80_i32
  v35
def k1_mult7 (k1_t1 : Fin k1_t1_loop.trips) : BitVec 32 :=
  let c0_i32_0 : BitVec 32 := 0#32
  let c1_i32 : BitVec 32 := 1#32
  let arg8 : BitVec 32 := Scf.iv c0_i32_0 c1_i32 k1_t1
  let c256_i32_15 : BitVec 32 := 256#32
  let v39 : BitVec 32 := Scalar.muli arg8 c256_i32_15
  let c96_i32 : BitVec 32 := 96#32
  let v40 : BitVec 32 := Scalar.addi v39 c96_i32
  v40
def k1_mult8 (k1_t1 : Fin k1_t1_loop.trips) : BitVec 32 :=
  let c0_i32_0 : BitVec 32 := 0#32
  let c1_i32 : BitVec 32 := 1#32
  let arg8 : BitVec 32 := Scf.iv c0_i32_0 c1_i32 k1_t1
  let c256_i32_16 : BitVec 32 := 256#32
  let v44 : BitVec 32 := Scalar.muli arg8 c256_i32_16
  let c112_i32 : BitVec 32 := 112#32
  let v45 : BitVec 32 := Scalar.addi v44 c112_i32
  v45
def k1_mult9 (k1_t1 : Fin k1_t1_loop.trips) : BitVec 32 :=
  let c0_i32_0 : BitVec 32 := 0#32
  let c1_i32 : BitVec 32 := 1#32
  let arg8 : BitVec 32 := Scf.iv c0_i32_0 c1_i32 k1_t1
  let c256_i32_17 : BitVec 32 := 256#32
  let v49 : BitVec 32 := Scalar.muli arg8 c256_i32_17
  let c128_i32 : BitVec 32 := 128#32
  let v50 : BitVec 32 := Scalar.addi v49 c128_i32
  v50
def k1_mult10 (k1_t1 : Fin k1_t1_loop.trips) : BitVec 32 :=
  let c0_i32_0 : BitVec 32 := 0#32
  let c1_i32 : BitVec 32 := 1#32
  let arg8 : BitVec 32 := Scf.iv c0_i32_0 c1_i32 k1_t1
  let c256_i32_18 : BitVec 32 := 256#32
  let v54 : BitVec 32 := Scalar.muli arg8 c256_i32_18
  let c144_i32 : BitVec 32 := 144#32
  let v55 : BitVec 32 := Scalar.addi v54 c144_i32
  v55
def k1_mult11 (k1_t1 : Fin k1_t1_loop.trips) : BitVec 32 :=
  let c0_i32_0 : BitVec 32 := 0#32
  let c1_i32 : BitVec 32 := 1#32
  let arg8 : BitVec 32 := Scf.iv c0_i32_0 c1_i32 k1_t1
  let c256_i32_19 : BitVec 32 := 256#32
  let v59 : BitVec 32 := Scalar.muli arg8 c256_i32_19
  let c160_i32 : BitVec 32 := 160#32
  let v60 : BitVec 32 := Scalar.addi v59 c160_i32
  v60
def k1_mult12 (k1_t1 : Fin k1_t1_loop.trips) : BitVec 32 :=
  let c0_i32_0 : BitVec 32 := 0#32
  let c1_i32 : BitVec 32 := 1#32
  let arg8 : BitVec 32 := Scf.iv c0_i32_0 c1_i32 k1_t1
  let c256_i32_20 : BitVec 32 := 256#32
  let v64 : BitVec 32 := Scalar.muli arg8 c256_i32_20
  let c176_i32 : BitVec 32 := 176#32
  let v65 : BitVec 32 := Scalar.addi v64 c176_i32
  v65
def k1_mult13 (k1_t1 : Fin k1_t1_loop.trips) : BitVec 32 :=
  let c0_i32_0 : BitVec 32 := 0#32
  let c1_i32 : BitVec 32 := 1#32
  let arg8 : BitVec 32 := Scf.iv c0_i32_0 c1_i32 k1_t1
  let c256_i32_21 : BitVec 32 := 256#32
  let v69 : BitVec 32 := Scalar.muli arg8 c256_i32_21
  let c192_i32 : BitVec 32 := 192#32
  let v70 : BitVec 32 := Scalar.addi v69 c192_i32
  v70
def k1_mult14 (k1_t1 : Fin k1_t1_loop.trips) : BitVec 32 :=
  let c0_i32_0 : BitVec 32 := 0#32
  let c1_i32 : BitVec 32 := 1#32
  let arg8 : BitVec 32 := Scf.iv c0_i32_0 c1_i32 k1_t1
  let c256_i32_22 : BitVec 32 := 256#32
  let v74 : BitVec 32 := Scalar.muli arg8 c256_i32_22
  let c208_i32 : BitVec 32 := 208#32
  let v75 : BitVec 32 := Scalar.addi v74 c208_i32
  v75
def k1_mult15 (k1_t1 : Fin k1_t1_loop.trips) : BitVec 32 :=
  let c0_i32_0 : BitVec 32 := 0#32
  let c1_i32 : BitVec 32 := 1#32
  let arg8 : BitVec 32 := Scf.iv c0_i32_0 c1_i32 k1_t1
  let c256_i32_23 : BitVec 32 := 256#32
  let v79 : BitVec 32 := Scalar.muli arg8 c256_i32_23
  let c224_i32 : BitVec 32 := 224#32
  let v80 : BitVec 32 := Scalar.addi v79 c224_i32
  v80
def k1_mult16 (k1_t1 : Fin k1_t1_loop.trips) : BitVec 32 :=
  let c0_i32_0 : BitVec 32 := 0#32
  let c1_i32 : BitVec 32 := 1#32
  let arg8 : BitVec 32 := Scf.iv c0_i32_0 c1_i32 k1_t1
  let c256_i32_24 : BitVec 32 := 256#32
  let v84 : BitVec 32 := Scalar.muli arg8 c256_i32_24
  let c240_i32 : BitVec 32 := 240#32
  let v85 : BitVec 32 := Scalar.addi v84 c240_i32
  v85
@[reducible] def k1_t2_loop : Scf.Loop 32 :=
  let c0_i32_4 : BitVec 32 := 0#32
  let c32_i32 : BitVec 32 := 32#32
  let v7 : BitVec 32 := Scalar.addi c0_i32_4 c32_i32
  let c1_i32_5 : BitVec 32 := 1#32
  ⟨c0_i32_4, v7, c1_i32_5⟩
def k1_mult17 (k1_t2 : Fin k1_t2_loop.trips) : BitVec 32 :=
  let c0_i32_4 : BitVec 32 := 0#32
  let c1_i32_5 : BitVec 32 := 1#32
  let arg8 : BitVec 32 := Scf.iv c0_i32_4 c1_i32_5 k1_t2
  let c16_i32 : BitVec 32 := 16#32
  let v9 : BitVec 32 := Scalar.muli arg8 c16_i32
  v9
def k1_off3 (k1_t2 : Fin k1_t2_loop.trips) : Fin 1 → Nat :=
  let c0_i32_4 : BitVec 32 := 0#32
  let c1_i32_5 : BitVec 32 := 1#32
  let arg8 : BitVec 32 := Scf.iv c0_i32_4 c1_i32_5 k1_t2
  let c16_i32 : BitVec 32 := 16#32
  let v9 : BitVec 32 := Scalar.muli arg8 c16_i32
  let v10 : BitVec 32 := v9
  let v11 : Index := Scalar.indexCast v10
  ![v11.toNat]

def k1_chk1 (v17 : IVec S16 32) : Prop :=
  (∀ a x, ((![v17] : Fin 1 → IVec S16 32) a x).toNat < S65536.size a) ∧
  (∀ a x, ((![v17] : Fin 1 → IVec S16 32) a x).toNat < S65536.size a) ∧
  (∀ a x, ((![v17] : Fin 1 → IVec S16 32) a x).toNat < S65536.size a) ∧
  (∀ a x, ((![v17] : Fin 1 → IVec S16 32) a x).toNat < S65536.size a) ∧
  (∀ a x, ((![v17] : Fin 1 → IVec S16 32) a x).toNat < S65536.size a) ∧
  (∀ a x, ((![v17] : Fin 1 → IVec S16 32) a x).toNat < S65536.size a) ∧
  (∀ a x, ((![v17] : Fin 1 → IVec S16 32) a x).toNat < S65536.size a) ∧
  (∀ a x, ((![v17] : Fin 1 → IVec S16 32) a x).toNat < S65536.size a) ∧
  (∀ a x, ((![v17] : Fin 1 → IVec S16 32) a x).toNat < S65536.size a) ∧
  (∀ a x, ((![v17] : Fin 1 → IVec S16 32) a x).toNat < S65536.size a) ∧
  (∀ a x, ((![v17] : Fin 1 → IVec S16 32) a x).toNat < S65536.size a) ∧
  (∀ a x, ((![v17] : Fin 1 → IVec S16 32) a x).toNat < S65536.size a) ∧
  (∀ a x, ((![v17] : Fin 1 → IVec S16 32) a x).toNat < S65536.size a) ∧
  (∀ a x, ((![v17] : Fin 1 → IVec S16 32) a x).toNat < S65536.size a) ∧
  (∀ a x, ((![v17] : Fin 1 → IVec S16 32) a x).toNat < S65536.size a) ∧
  (∀ a x, ((![v17] : Fin 1 → IVec S16 32) a x).toNat < S65536.size a)
theorem k1_idx1_inb : ∀ (v17 : IVec S16 32) (k1_hw1 : k1_chk1 v17), ∀ a x, ((![v17] : Fin 1 → IVec S16 32) a x).toNat < S65536.size a := fun v17 k1_hw1 => k1_hw1.1
theorem k1_idx2_inb : ∀ (v17 : IVec S16 32) (k1_hw1 : k1_chk1 v17), ∀ a x, ((![v17] : Fin 1 → IVec S16 32) a x).toNat < S65536.size a := fun v17 k1_hw1 => k1_hw1.2.1
theorem k1_idx3_inb : ∀ (v17 : IVec S16 32) (k1_hw1 : k1_chk1 v17), ∀ a x, ((![v17] : Fin 1 → IVec S16 32) a x).toNat < S65536.size a := fun v17 k1_hw1 => k1_hw1.2.2.1
theorem k1_idx4_inb : ∀ (v17 : IVec S16 32) (k1_hw1 : k1_chk1 v17), ∀ a x, ((![v17] : Fin 1 → IVec S16 32) a x).toNat < S65536.size a := fun v17 k1_hw1 => k1_hw1.2.2.2.1
theorem k1_idx5_inb : ∀ (v17 : IVec S16 32) (k1_hw1 : k1_chk1 v17), ∀ a x, ((![v17] : Fin 1 → IVec S16 32) a x).toNat < S65536.size a := fun v17 k1_hw1 => k1_hw1.2.2.2.2.1
theorem k1_idx6_inb : ∀ (v17 : IVec S16 32) (k1_hw1 : k1_chk1 v17), ∀ a x, ((![v17] : Fin 1 → IVec S16 32) a x).toNat < S65536.size a := fun v17 k1_hw1 => k1_hw1.2.2.2.2.2.1
theorem k1_idx7_inb : ∀ (v17 : IVec S16 32) (k1_hw1 : k1_chk1 v17), ∀ a x, ((![v17] : Fin 1 → IVec S16 32) a x).toNat < S65536.size a := fun v17 k1_hw1 => k1_hw1.2.2.2.2.2.2.1
theorem k1_idx8_inb : ∀ (v17 : IVec S16 32) (k1_hw1 : k1_chk1 v17), ∀ a x, ((![v17] : Fin 1 → IVec S16 32) a x).toNat < S65536.size a := fun v17 k1_hw1 => k1_hw1.2.2.2.2.2.2.2.1
theorem k1_idx9_inb : ∀ (v17 : IVec S16 32) (k1_hw1 : k1_chk1 v17), ∀ a x, ((![v17] : Fin 1 → IVec S16 32) a x).toNat < S65536.size a := fun v17 k1_hw1 => k1_hw1.2.2.2.2.2.2.2.2.1
theorem k1_idx10_inb : ∀ (v17 : IVec S16 32) (k1_hw1 : k1_chk1 v17), ∀ a x, ((![v17] : Fin 1 → IVec S16 32) a x).toNat < S65536.size a := fun v17 k1_hw1 => k1_hw1.2.2.2.2.2.2.2.2.2.1
theorem k1_idx11_inb : ∀ (v17 : IVec S16 32) (k1_hw1 : k1_chk1 v17), ∀ a x, ((![v17] : Fin 1 → IVec S16 32) a x).toNat < S65536.size a := fun v17 k1_hw1 => k1_hw1.2.2.2.2.2.2.2.2.2.2.1
theorem k1_idx12_inb : ∀ (v17 : IVec S16 32) (k1_hw1 : k1_chk1 v17), ∀ a x, ((![v17] : Fin 1 → IVec S16 32) a x).toNat < S65536.size a := fun v17 k1_hw1 => k1_hw1.2.2.2.2.2.2.2.2.2.2.2.1
theorem k1_idx13_inb : ∀ (v17 : IVec S16 32) (k1_hw1 : k1_chk1 v17), ∀ a x, ((![v17] : Fin 1 → IVec S16 32) a x).toNat < S65536.size a := fun v17 k1_hw1 => k1_hw1.2.2.2.2.2.2.2.2.2.2.2.2.1
theorem k1_idx14_inb : ∀ (v17 : IVec S16 32) (k1_hw1 : k1_chk1 v17), ∀ a x, ((![v17] : Fin 1 → IVec S16 32) a x).toNat < S65536.size a := fun v17 k1_hw1 => k1_hw1.2.2.2.2.2.2.2.2.2.2.2.2.2.1
theorem k1_idx15_inb : ∀ (v17 : IVec S16 32) (k1_hw1 : k1_chk1 v17), ∀ a x, ((![v17] : Fin 1 → IVec S16 32) a x).toNat < S65536.size a := fun v17 k1_hw1 => k1_hw1.2.2.2.2.2.2.2.2.2.2.2.2.2.2.1
theorem k1_idx16_inb : ∀ (v17 : IVec S16 32) (k1_hw1 : k1_chk1 v17), ∀ a x, ((![v17] : Fin 1 → IVec S16 32) a x).toNat < S65536.size a := fun v17 k1_hw1 => k1_hw1.2.2.2.2.2.2.2.2.2.2.2.2.2.2.2
def k1_off4 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v8 : BitVec 32 := Scalar.muli v1 c65536_i32
  ![v8.toNat]
abbrev grid2 : Pipeline.Grid := .none

abbrev stage2_0 : Fin 1 → Memref sig .tc .vmem S512x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S2097152 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S256x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S256x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S256x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev stage2_10 : Fin 1 → Memref sig .tc .vmem S256x256 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))

abbrev stage2_11 : Fin 1 → Memref sig .tc .vmem S1x256 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))

abbrev stage2_12 : Fin 1 → Memref sig .tc .vmem S256x256 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))

abbrev stage2_13 : Fin 1 → Memref sig .tc .vmem S256x256 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))

abbrev stage2_14 : Fin 1 → Memref sig .tc .vmem S1x256 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))

abbrev stage2_15 : Fin 1 → Memref sig .tc .vmem S512x256 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))

abbrev stage2_16 : Fin 1 → Memref sig .tc .vmem S512x256 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))

abbrev stage2_17 : Fin 1 → Memref sig .tc .vmem S256x256 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S64x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S64x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S512x1024 : Shape := ⟨2, ![512, 1024]⟩
abbrev S256x512 : Shape := ⟨2, ![256, 512]⟩
abbrev S2x16384 : Shape := ⟨2, ![2, 16384]⟩
abbrev S1024x256 : Shape := ⟨2, ![1024, 256]⟩
abbrev S256 : Shape := ⟨1, ![256]⟩
abbrev S256x256 : Shape := ⟨2, ![256, 256]⟩
abbrev S512x256 : Shape := ⟨2, ![512, 256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S1x256 : Shape := ⟨2, ![1, 256]⟩
abbrev S_ : Shape := ⟨0, ![]⟩
abbrev S1x16384 : Shape := ⟨2, ![1, 16384]⟩
abbrev S16384 : Shape := ⟨1, ![16384]⟩
abbrev S16384x1 : Shape := ⟨2, ![16384, 1]⟩
abbrev S16384x256 : Shape := ⟨2, ![16384, 256]⟩
abbrev S16384x512 : Shape := ⟨2, ![16384, 512]⟩
abbrev S512x1 : Shape := ⟨2, ![512, 1]⟩
abbrev S512x1x256 : Shape := ⟨3, ![512, 1, 256]⟩
abbrev S512x256x256 : Shape := ⟨3, ![512, 256, 256]⟩
abbrev S1x256x256 : Shape := ⟨3, ![1, 256, 256]⟩
abbrev S512x256x512 : Shape := ⟨3, ![512, 256, 512]⟩
abbrev S1x1x256 : Shape := ⟨3, ![1, 1, 256]⟩
abbrev S512x256x64 : Shape := ⟨3, ![512, 256, 64]⟩
abbrev S1x1x64 : Shape := ⟨3, ![1, 1, 64]⟩
abbrev S512x256x1 : Shape := ⟨3, ![512, 256, 1]⟩
abbrev S1x1x1 : Shape := ⟨3, ![1, 1, 1]⟩

abbrev nBuf : Space → Nat
  | .hbm => 250
  | .vmem => 0
  | .smem => 0
  | _ => 0

abbrev hbmTy0_0 (i : Nat) : BufTy := match i % 128 with
  | 0 => ⟨S512x1024, .f32⟩
  | 1 => ⟨S256x512, .f32⟩
  | 2 => ⟨S2x16384, .i32⟩
  | 3 => ⟨S1024x256, .f32⟩
  | 4 => ⟨S256, .f32⟩
  | 5 => ⟨S256x256, .f32⟩
  | 6 => ⟨S256, .f32⟩
  | 7 => ⟨S512x256, .f32⟩
  | 8 => ⟨S256, .f32⟩
  | 9 => ⟨S256x256, .f32⟩
  | 10 => ⟨S256, .f32⟩
  | 11 => ⟨S512x256, .f32⟩
  | 12 => ⟨S256, .f32⟩
  | 13 => ⟨S512x256, .f32⟩
  | 14 => ⟨S256, .f32⟩
  | 15 => ⟨S512x256, .f32⟩
  | 16 => ⟨S256, .f32⟩
  | 17 => ⟨S512x256, .f32⟩
  | 18 => ⟨S256, .f32⟩
  | 19 => ⟨S256x64, .f32⟩
  | 20 => ⟨S64, .f32⟩
  | 21 => ⟨S64x1, .f32⟩
  | 22 => ⟨S1, .f32⟩
  | 23 => ⟨S512x256, .f32⟩
  | 24 => ⟨S1x256, .f32⟩
  | 25 => ⟨S512x256, .f32⟩
  | 26 => ⟨S512x256, .f32⟩
  | 27 => ⟨S_, .f32⟩
  | 28 => ⟨S512x256, .f32⟩
  | 29 => ⟨S512x256, .f32⟩
  | 30 => ⟨S512x256, .f32⟩
  | 31 => ⟨S1x256, .f32⟩
  | 32 => ⟨S512x256, .f32⟩
  | 33 => ⟨S512x256, .f32⟩
  | 34 => ⟨S_, .f32⟩
  | 35 => ⟨S512x256, .f32⟩
  | 36 => ⟨S512x256, .f32⟩
  | 37 => ⟨S256x256, .f32⟩
  | 38 => ⟨S1x256, .f32⟩
  | 39 => ⟨S256x256, .f32⟩
  | 40 => ⟨S256x256, .f32⟩
  | 41 => ⟨S_, .f32⟩
  | 42 => ⟨S256x256, .f32⟩
  | 43 => ⟨S256x256, .f32⟩
  | 44 => ⟨S256x256, .f32⟩
  | 45 => ⟨S1x256, .f32⟩
  | 46 => ⟨S256x256, .f32⟩
  | 47 => ⟨S256x256, .f32⟩
  | 48 => ⟨S_, .f32⟩
  | 49 => ⟨S256x256, .f32⟩
  | 50 => ⟨S256x256, .f32⟩
  | 51 => ⟨S1x16384, .i32⟩
  | 52 => ⟨S16384, .i32⟩
  | 53 => ⟨S1x16384, .i32⟩
  | 54 => ⟨S16384, .i32⟩
  | 55 => ⟨S_, .i32⟩
  | 56 => ⟨S16384, .i32⟩
  | 57 => ⟨S16384, .i1⟩
  | 58 => ⟨S_, .i32⟩
  | 59 => ⟨S16384, .i32⟩
  | 60 => ⟨S16384, .i32⟩
  | 61 => ⟨S16384, .i32⟩
  | 62 => ⟨S16384x1, .i32⟩
  | 63 => ⟨S16384x256, .f32⟩
  | 64 => ⟨S_, .i32⟩
  | 65 => ⟨S16384, .i32⟩
  | 66 => ⟨S16384, .i1⟩
  | 67 => ⟨S_, .i32⟩
  | 68 => ⟨S16384, .i32⟩
  | 69 => ⟨S16384, .i32⟩
  | 70 => ⟨S16384, .i32⟩
  | 71 => ⟨S16384x1, .i32⟩
  | 72 => ⟨S16384x256, .f32⟩
  | 73 => ⟨S16384x512, .f32⟩
  | 74 => ⟨S16384x256, .f32⟩
  | 75 => ⟨S1x256, .f32⟩
  | 76 => ⟨S16384x256, .f32⟩
  | 77 => ⟨S16384x256, .f32⟩
  | 78 => ⟨S_, .f32⟩
  | 79 => ⟨S16384x256, .f32⟩
  | 80 => ⟨S16384x256, .f32⟩
  | 81 => ⟨S_, .f32⟩
  | 82 => ⟨S512x256, .f32⟩
  | 83 => ⟨S_, .i32⟩
  | 84 => ⟨S16384, .i32⟩
  | 85 => ⟨S16384, .i1⟩
  | 86 => ⟨S_, .i32⟩
  | 87 => ⟨S16384, .i32⟩
  | 88 => ⟨S16384, .i32⟩
  | 89 => ⟨S16384, .i32⟩
  | 90 => ⟨S16384x1, .i32⟩
  | 91 => ⟨S512x256, .f32⟩
  | 92 => ⟨S_, .f32⟩
  | 93 => ⟨S512x1, .f32⟩
  | 94 => ⟨S_, .f32⟩
  | 95 => ⟨S16384x1, .f32⟩
  | 96 => ⟨S_, .i32⟩
  | 97 => ⟨S16384, .i32⟩
  | 98 => ⟨S16384, .i1⟩
  | 99 => ⟨S_, .i32⟩
  | 100 => ⟨S16384, .i32⟩
  | 101 => ⟨S16384, .i32⟩
  | 102 => ⟨S16384, .i32⟩
  | 103 => ⟨S16384x1, .i32⟩
  | 104 => ⟨S512x1, .f32⟩
  | 105 => ⟨S_, .f32⟩
  | 106 => ⟨S_, .f32⟩
  | 107 => ⟨S512x1, .f32⟩
  | 108 => ⟨S512x1, .f32⟩
  | 109 => ⟨S512x256, .f32⟩
  | 110 => ⟨S512x256, .f32⟩
  | 111 => ⟨S512x256, .f32⟩
  | 112 => ⟨S_, .i32⟩
  | 113 => ⟨S16384, .i32⟩
  | 114 => ⟨S16384, .i1⟩
  | 115 => ⟨S_, .i32⟩
  | 116 => ⟨S16384, .i32⟩
  | 117 => ⟨S16384, .i32⟩
  | 118 => ⟨S16384, .i32⟩
  | 119 => ⟨S16384x1, .i32⟩
  | 120 => ⟨S16384x256, .f32⟩
  | 121 => ⟨S_, .i32⟩
  | 122 => ⟨S16384, .i32⟩
  | 123 => ⟨S16384, .i1⟩
  | 124 => ⟨S_, .i32⟩
  | 125 => ⟨S16384, .i32⟩
  | 126 => ⟨S16384, .i32⟩
  | 127 => ⟨S16384, .i32⟩
  | _ => ⟨S512x1024, .f32⟩

abbrev hbmTy0_1 (i : Nat) : BufTy := match i % 128 with
  | 0 => ⟨S16384x1, .i32⟩
  | 1 => ⟨S16384x256, .f32⟩
  | 2 => ⟨S16384x512, .f32⟩
  | 3 => ⟨S16384x256, .f32⟩
  | 4 => ⟨S1x256, .f32⟩
  | 5 => ⟨S16384x256, .f32⟩
  | 6 => ⟨S16384x256, .f32⟩
  | 7 => ⟨S_, .f32⟩
  | 8 => ⟨S16384x256, .f32⟩
  | 9 => ⟨S16384x256, .f32⟩
  | 10 => ⟨S_, .f32⟩
  | 11 => ⟨S512x256, .f32⟩
  | 12 => ⟨S_, .i32⟩
  | 13 => ⟨S16384, .i32⟩
  | 14 => ⟨S16384, .i1⟩
  | 15 => ⟨S_, .i32⟩
  | 16 => ⟨S16384, .i32⟩
  | 17 => ⟨S16384, .i32⟩
  | 18 => ⟨S16384, .i32⟩
  | 19 => ⟨S16384x1, .i32⟩
  | 20 => ⟨S512x256, .f32⟩
  | 21 => ⟨S_, .f32⟩
  | 22 => ⟨S512x1, .f32⟩
  | 23 => ⟨S_, .f32⟩
  | 24 => ⟨S16384x1, .f32⟩
  | 25 => ⟨S_, .i32⟩
  | 26 => ⟨S16384, .i32⟩
  | 27 => ⟨S16384, .i1⟩
  | 28 => ⟨S_, .i32⟩
  | 29 => ⟨S16384, .i32⟩
  | 30 => ⟨S16384, .i32⟩
  | 31 => ⟨S16384, .i32⟩
  | 32 => ⟨S16384x1, .i32⟩
  | 33 => ⟨S512x1, .f32⟩
  | 34 => ⟨S_, .f32⟩
  | 35 => ⟨S_, .f32⟩
  | 36 => ⟨S512x1, .f32⟩
  | 37 => ⟨S512x1, .f32⟩
  | 38 => ⟨S512x256, .f32⟩
  | 39 => ⟨S512x256, .f32⟩
  | 40 => ⟨S512x256, .f32⟩
  | 41 => ⟨S_, .i32⟩
  | 42 => ⟨S16384, .i32⟩
  | 43 => ⟨S16384, .i1⟩
  | 44 => ⟨S_, .i32⟩
  | 45 => ⟨S16384, .i32⟩
  | 46 => ⟨S16384, .i32⟩
  | 47 => ⟨S16384, .i32⟩
  | 48 => ⟨S16384x1, .i32⟩
  | 49 => ⟨S16384x256, .f32⟩
  | 50 => ⟨S_, .i32⟩
  | 51 => ⟨S16384, .i32⟩
  | 52 => ⟨S16384, .i1⟩
  | 53 => ⟨S_, .i32⟩
  | 54 => ⟨S16384, .i32⟩
  | 55 => ⟨S16384, .i32⟩
  | 56 => ⟨S16384, .i32⟩
  | 57 => ⟨S16384x1, .i32⟩
  | 58 => ⟨S16384x256, .f32⟩
  | 59 => ⟨S16384x512, .f32⟩
  | 60 => ⟨S16384x256, .f32⟩
  | 61 => ⟨S1x256, .f32⟩
  | 62 => ⟨S16384x256, .f32⟩
  | 63 => ⟨S16384x256, .f32⟩
  | 64 => ⟨S_, .f32⟩
  | 65 => ⟨S16384x256, .f32⟩
  | 66 => ⟨S16384x256, .f32⟩
  | 67 => ⟨S_, .f32⟩
  | 68 => ⟨S512x256, .f32⟩
  | 69 => ⟨S_, .i32⟩
  | 70 => ⟨S16384, .i32⟩
  | 71 => ⟨S16384, .i1⟩
  | 72 => ⟨S_, .i32⟩
  | 73 => ⟨S16384, .i32⟩
  | 74 => ⟨S16384, .i32⟩
  | 75 => ⟨S16384, .i32⟩
  | 76 => ⟨S16384x1, .i32⟩
  | 77 => ⟨S512x256, .f32⟩
  | 78 => ⟨S_, .f32⟩
  | 79 => ⟨S512x1, .f32⟩
  | 80 => ⟨S_, .f32⟩
  | 81 => ⟨S16384x1, .f32⟩
  | 82 => ⟨S_, .i32⟩
  | 83 => ⟨S16384, .i32⟩
  | 84 => ⟨S16384, .i1⟩
  | 85 => ⟨S_, .i32⟩
  | 86 => ⟨S16384, .i32⟩
  | 87 => ⟨S16384, .i32⟩
  | 88 => ⟨S16384, .i32⟩
  | 89 => ⟨S16384x1, .i32⟩
  | 90 => ⟨S512x1, .f32⟩
  | 91 => ⟨S_, .f32⟩
  | 92 => ⟨S_, .f32⟩
  | 93 => ⟨S512x1, .f32⟩
  | 94 => ⟨S512x1, .f32⟩
  | 95 => ⟨S512x256, .f32⟩
  | 96 => ⟨S512x256, .f32⟩
  | 97 => ⟨S512x256, .f32⟩
  | 98 => ⟨S512x1x256, .f32⟩
  | 99 => ⟨S512x256x256, .f32⟩
  | 100 => ⟨S1x256x256, .f32⟩
  | 101 => ⟨S512x256x256, .f32⟩
  | 102 => ⟨S512x256x512, .f32⟩
  | 103 => ⟨S512x256x256, .f32⟩
  | 104 => ⟨S1x1x256, .f32⟩
  | 105 => ⟨S512x256x256, .f32⟩
  | 106 => ⟨S512x256x256, .f32⟩
  | 107 => ⟨S_, .f32⟩
  | 108 => ⟨S512x256x256, .f32⟩
  | 109 => ⟨S512x256x256, .f32⟩
  | 110 => ⟨S512x256x64, .f32⟩
  | 111 => ⟨S1x1x64, .f32⟩
  | 112 => ⟨S512x256x64, .f32⟩
  | 113 => ⟨S512x256x64, .f32⟩
  | 114 => ⟨S_, .f32⟩
  | 115 => ⟨S512x256x64, .f32⟩
  | 116 => ⟨S512x256x64, .f32⟩
  | 117 => ⟨S512x256x1, .f32⟩
  | 118 => ⟨S1x1x1, .f32⟩
  | 119 => ⟨S512x256x1, .f32⟩
  | 120 => ⟨S512x256x1, .f32⟩
  | 121 => ⟨S512x256, .f32⟩
  | _ => ⟨S512x1024, .f32⟩

abbrev hbmTy (i : Nat) : BufTy := match i / 128 with
  | 0 => hbmTy0_0 i
  | 1 => hbmTy0_1 i
  | _ => ⟨S512x1024, .f32⟩

abbrev bufTy : (tb : Table) → Fin (tcTables nBuf tb) → BufTy
  | .hbm, ⟨i, _⟩ => hbmTy i
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_call0_cst : Ref sig .tc := ⟨.hbm, 27, rfl⟩
abbrev main_call0_v0 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_call1_cst : Ref sig .tc := ⟨.hbm, 34, rfl⟩
abbrev main_call1_v0 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_call2_cst : Ref sig .tc := ⟨.hbm, 41, rfl⟩
abbrev main_call2_v0 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_call3_cst : Ref sig .tc := ⟨.hbm, 48, rfl⟩
abbrev main_call3_v0 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_c : Ref sig .tc := ⟨.hbm, 55, rfl⟩
abbrev main_v24 : Ref sig .tc := ⟨.hbm, 56, rfl⟩
abbrev main_v25 : Ref sig .tc := ⟨.hbm, 57, rfl⟩
abbrev main_c_0 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_c_1 : Ref sig .tc := ⟨.hbm, 64, rfl⟩
abbrev main_v31 : Ref sig .tc := ⟨.hbm, 65, rfl⟩
abbrev main_v32 : Ref sig .tc := ⟨.hbm, 66, rfl⟩
abbrev main_c_2 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_call4_cst : Ref sig .tc := ⟨.hbm, 78, rfl⟩
abbrev main_call4_v0 : Ref sig .tc := ⟨.hbm, 79, rfl⟩
abbrev main_v43 : Ref sig .tc := ⟨.hbm, 80, rfl⟩
abbrev main_cst : Ref sig .tc := ⟨.hbm, 81, rfl⟩
abbrev main_v44 : Ref sig .tc := ⟨.hbm, 82, rfl⟩
abbrev main_c_3 : Ref sig .tc := ⟨.hbm, 83, rfl⟩
abbrev main_v45 : Ref sig .tc := ⟨.hbm, 84, rfl⟩
abbrev main_v46 : Ref sig .tc := ⟨.hbm, 85, rfl⟩
abbrev main_c_4 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_cst_5 : Ref sig .tc := ⟨.hbm, 92, rfl⟩
abbrev main_v52 : Ref sig .tc := ⟨.hbm, 93, rfl⟩
abbrev main_cst_6 : Ref sig .tc := ⟨.hbm, 94, rfl⟩
abbrev main_v53 : Ref sig .tc := ⟨.hbm, 95, rfl⟩
abbrev main_c_7 : Ref sig .tc := ⟨.hbm, 96, rfl⟩
abbrev main_v54 : Ref sig .tc := ⟨.hbm, 97, rfl⟩
abbrev main_v55 : Ref sig .tc := ⟨.hbm, 98, rfl⟩
abbrev main_c_8 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_cst_9 : Ref sig .tc := ⟨.hbm, 105, rfl⟩
abbrev main_call5_v0 : Ref sig .tc := ⟨.hbm, 106, rfl⟩
abbrev main_call5_v1 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_c_10 : Ref sig .tc := ⟨.hbm, 112, rfl⟩
abbrev main_v65 : Ref sig .tc := ⟨.hbm, 113, rfl⟩
abbrev main_v66 : Ref sig .tc := ⟨.hbm, 114, rfl⟩
abbrev main_c_11 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_c_12 : Ref sig .tc := ⟨.hbm, 121, rfl⟩
abbrev main_v72 : Ref sig .tc := ⟨.hbm, 122, rfl⟩
abbrev main_v73 : Ref sig .tc := ⟨.hbm, 123, rfl⟩
abbrev main_c_13 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_call6_cst : Ref sig .tc := ⟨.hbm, 135, rfl⟩
abbrev main_call6_v0 : Ref sig .tc := ⟨.hbm, 136, rfl⟩
abbrev main_v84 : Ref sig .tc := ⟨.hbm, 137, rfl⟩
abbrev main_cst_14 : Ref sig .tc := ⟨.hbm, 138, rfl⟩
abbrev main_v85 : Ref sig .tc := ⟨.hbm, 139, rfl⟩
abbrev main_c_15 : Ref sig .tc := ⟨.hbm, 140, rfl⟩
abbrev main_v86 : Ref sig .tc := ⟨.hbm, 141, rfl⟩
abbrev main_v87 : Ref sig .tc := ⟨.hbm, 142, rfl⟩
abbrev main_c_16 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_cst_17 : Ref sig .tc := ⟨.hbm, 149, rfl⟩
abbrev main_v93 : Ref sig .tc := ⟨.hbm, 150, rfl⟩
abbrev main_cst_18 : Ref sig .tc := ⟨.hbm, 151, rfl⟩
abbrev main_v94 : Ref sig .tc := ⟨.hbm, 152, rfl⟩
abbrev main_c_19 : Ref sig .tc := ⟨.hbm, 153, rfl⟩
abbrev main_v95 : Ref sig .tc := ⟨.hbm, 154, rfl⟩
abbrev main_v96 : Ref sig .tc := ⟨.hbm, 155, rfl⟩
abbrev main_c_20 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_cst_21 : Ref sig .tc := ⟨.hbm, 162, rfl⟩
abbrev main_call7_v0 : Ref sig .tc := ⟨.hbm, 163, rfl⟩
abbrev main_call7_v1 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_c_22 : Ref sig .tc := ⟨.hbm, 169, rfl⟩
abbrev main_v106 : Ref sig .tc := ⟨.hbm, 170, rfl⟩
abbrev main_v107 : Ref sig .tc := ⟨.hbm, 171, rfl⟩
abbrev main_c_23 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_c_24 : Ref sig .tc := ⟨.hbm, 178, rfl⟩
abbrev main_v113 : Ref sig .tc := ⟨.hbm, 179, rfl⟩
abbrev main_v114 : Ref sig .tc := ⟨.hbm, 180, rfl⟩
abbrev main_c_25 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_call8_cst : Ref sig .tc := ⟨.hbm, 192, rfl⟩
abbrev main_call8_v0 : Ref sig .tc := ⟨.hbm, 193, rfl⟩
abbrev main_v125 : Ref sig .tc := ⟨.hbm, 194, rfl⟩
abbrev main_cst_26 : Ref sig .tc := ⟨.hbm, 195, rfl⟩
abbrev main_v126 : Ref sig .tc := ⟨.hbm, 196, rfl⟩
abbrev main_c_27 : Ref sig .tc := ⟨.hbm, 197, rfl⟩
abbrev main_v127 : Ref sig .tc := ⟨.hbm, 198, rfl⟩
abbrev main_v128 : Ref sig .tc := ⟨.hbm, 199, rfl⟩
abbrev main_c_28 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_cst_29 : Ref sig .tc := ⟨.hbm, 206, rfl⟩
abbrev main_v134 : Ref sig .tc := ⟨.hbm, 207, rfl⟩
abbrev main_cst_30 : Ref sig .tc := ⟨.hbm, 208, rfl⟩
abbrev main_v135 : Ref sig .tc := ⟨.hbm, 209, rfl⟩
abbrev main_c_31 : Ref sig .tc := ⟨.hbm, 210, rfl⟩
abbrev main_v136 : Ref sig .tc := ⟨.hbm, 211, rfl⟩
abbrev main_v137 : Ref sig .tc := ⟨.hbm, 212, rfl⟩
abbrev main_c_32 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_cst_33 : Ref sig .tc := ⟨.hbm, 219, rfl⟩
abbrev main_call9_v0 : Ref sig .tc := ⟨.hbm, 220, rfl⟩
abbrev main_call9_v1 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_call10_cst : Ref sig .tc := ⟨.hbm, 235, rfl⟩
abbrev main_call10_v0 : Ref sig .tc := ⟨.hbm, 236, rfl⟩
abbrev main_v156 : Ref sig .tc := ⟨.hbm, 237, rfl⟩
abbrev main_v157 : Ref sig .tc := ⟨.hbm, 238, rfl⟩
abbrev main_v158 : Ref sig .tc := ⟨.hbm, 239, rfl⟩
abbrev main_v159 : Ref sig .tc := ⟨.hbm, 240, rfl⟩
abbrev main_v160 : Ref sig .tc := ⟨.hbm, 241, rfl⟩
abbrev main_call11_cst : Ref sig .tc := ⟨.hbm, 242, rfl⟩
abbrev main_call11_v0 : Ref sig .tc := ⟨.hbm, 243, rfl⟩
abbrev main_v161 : Ref sig .tc := ⟨.hbm, 244, rfl⟩
abbrev main_v162 : Ref sig .tc := ⟨.hbm, 245, rfl⟩
abbrev main_v163 : Ref sig .tc := ⟨.hbm, 246, rfl⟩
abbrev main_v164 : Ref sig .tc := ⟨.hbm, 247, rfl⟩
abbrev main_v165 : Ref sig .tc := ⟨.hbm, 248, rfl⟩
abbrev main_v166 : Ref sig .tc := ⟨.hbm, 249, rfl⟩

abbrev nD : Nat := 1
abbrev τ : Topo := Topo.v7x

variable {F : FTy → Type} [FloatOps F]
-- ==== Proof.Setup.lean ====
/-
  The launch as the proofs see it: the SparseCore call's configuration, the algebra of ghost state, and the
  arrays the call reads and writes.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Pipeline.RegionArrays
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels of the three TensorCore pipelines over the printed body table's. -/
abbrev ΛP : Labels := Pipeline.Sig Λ₀ (Fin 3) fun p => (pcfgs (F := F) p).Adm
/-- The SparseCore call's configuration. -/
abbrev K : SparseCore.Cfg τ sig (ΛP (F := F)) 1 := sc (F := F)
/-- The definitions below the SparseCore's: the pipelines over the printed body table. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- Three parts: the handshakes' rounds, the pipelines' staging cells' rounds, the tasks' transfers' counters. -/
abbrev UH : Type := URounds (GSem nD τ sig) ℕ
abbrev UR : Type := URounds (GSem nD τ sig) Unit
abbrev UU : Type := UH × (UR × Counters)

local notation "𝕄" => MT nD τ sig (HIx 1) (Elt F) ℕ UU ℕ

abbrev EH : Emb UH (MT nD τ sig (HIx 1) (Elt F) ℕ UU ℕ) := embL
abbrev EP : Emb UR (MT nD τ sig (HIx 1) (Elt F) ℕ UU ℕ) :=
  (Emb.inl : Emb UR (UR × Counters)).trans embR

instance EP_landsIn : (EP : Emb UR 𝕄).LandsIn (upEmb : UEmb _ 𝕄) := by
  unfold EP embR; infer_instance

/-- The arrays of the SparseCore call, as locations of device `d`: the edges' sources, their targets, the counts. -/
abbrev sLoc (d : Dev nD) : Loc nD τ sig := (SparseCore.T d).loc main_v6
abbrev tLoc (d : Dev nD) : Loc nD τ sig := (SparseCore.T d).loc main_v8
abbrev oLoc (d : Dev nD) : Loc nD τ sig := (SparseCore.T d).loc main_v9

end Cert.Proof.K

end
-- ==== Proof.Counts.lean ====
/-
  What one SparseCore task computes, over any floats: it starts from an accumulator of zeros and, for each of its
  512 edges in order, adds one at the flat position `256 * source + target`.
-/
module

public import proofs.«01_k».proof.Proof.Setup

@[expose] public section

noncomputable section

namespace Cert.Proof.K

open Cert.KernelIdeal Cert.KernelIdeal.Gen
open Idealize.ShloMosaic

variable {F : FTy → Type} [FloatOps F]

/-- The accumulator's zero and the one an edge adds. -/
abbrev zeroF : F .f32 := Scalar.ofBits .f32 0x00000000#32
abbrev oneF : F .f32 := Scalar.ofBits .f32 0x3F800000#32

/-- One more at the position `w` names. -/
def bump (f : S65536.Idx → F .f32) (w : BitVec 32) : S65536.Idx → F .f32 :=
  fun j => if (j 0).val = w.toNat then FloatOps.idxAddf (f j) oneF else f j

/-- The accumulator after the first `n` edges of the list of positions `w`. -/
def runs (w : ℕ → BitVec 32) : ℕ → (S65536.Idx → F .f32)
  | 0 => fun _ => zeroF
  | n + 1 => bump (runs w n) (w n)

/-- Element `n` of a list of the edges' ends. -/
abbrev eIx (n : ℕ) : S16384.Idx := fun a => ⟨n % S16384.size a, Nat.mod_lt _ (by fin_cases a; decide)⟩

/-- Edge `n`'s flat position. -/
def edgeWord (fs ft : S16384.Idx → BitVec 32) (n : ℕ) : BitVec 32 := fs (eIx n) * 256#32 + ft (eIx n)

/-- The positions of the edges of task number `w`. -/
def taskWord (fs ft : S16384.Idx → BitVec 32) (w n : ℕ) : BitVec 32 := edgeWord fs ft (512 * w + n)

/-- A position of the accumulator. -/
abbrev aIx (n : ℕ) : S65536.Idx := fun a => ⟨n % S65536.size a, Nat.mod_lt _ (by fin_cases a; decide)⟩

/-- The counts all the tasks leave: task `w`'s accumulator is the `w`-th stretch of 65536 elements. -/
def countsOf (fs ft : S16384.Idx → BitVec 32) : S2097152.Idx → F .f32 :=
  fun x => runs (taskWord fs ft ((x 0).val / 65536)) 512 (aIx (x 0).val)

/-- The mask of lane `k`: the lane numbers compared with `k`. -/
theorem lane_mask (k : ℕ) (hk : k < 16) (x : S16.Idx) :
    (cmpi .eq (iota .scVector S16 32 [0] iota_S16_d0_w32_scVector) (broadcast S16 (BitVec.ofNat 32 k)) x = 1) ↔ (x 0).val = k := by
  have hx : (x 0).val < 16 := (x 0).isLt
  show BitVec.ofBool (BitVec.ofNat 32 (0 * S16.size 0 + (x 0).val) == BitVec.ofNat 32 k) = 1 ↔ _
  rw [Nat.zero_mul, Nat.zero_add]
  constructor
  · intro h
    by_contra hne
    have : (BitVec.ofNat 32 (x 0).val == BitVec.ofNat 32 k) = false := by
      rw [beq_eq_false_iff_ne]
      intro e
      have e' := congrArg BitVec.toNat e
      rw [BitVec.toNat_ofNat, BitVec.toNat_ofNat, Nat.mod_eq_of_lt (by omega), Nat.mod_eq_of_lt (by omega)] at e'
      exact hne e'
    rw [this] at h
    exact absurd h (by decide)
  · intro h
    rw [h, beq_self_eq_true]; rfl

/-- A masked scatter-add whose mask selects one lane adds one at the position that lane names. -/
theorem storeIdx_lane (f : Vec F S65536 .f32) (v : IVec S16 32) (mask : IVec S16 1) (h : ∀ a x, ((![v] : Fin 1 → IVec S16 32) a x).toNat < S65536.size a)
    (k : Fin 16) (hm : ∀ x : S16.Idx, mask x = 1 ↔ (x 0).val = k.val) :
    storeIdx f ![v] (broadcast S16 (oneF (F := F)) : FVec F S16 .f32) mask true h = bump f (v (Shape.ofLane k)) := by
  have step : ∀ (l : List (Fin 16)), l.Nodup → ∀ g : Vec F S65536 .f32,
      l.foldl (fun (g : Vec F S65536 .f32) (j : Fin 16) =>
        if mask (Shape.ofLane j) = 1 then
          fun i : S65536.Idx => if (∀ a, (i a).val = (idxAt ![v] h (Shape.ofLane j) a).val)
            then FloatOps.idxAddf (g (idxAt ![v] h (Shape.ofLane j))) oneF else g i
        else g) g = if k ∈ l then bump g (v (Shape.ofLane k)) else g := by
    intro l
    induction l with
    | nil => intro _ g; rfl
    | cons a l ih =>
      intro hnd g
      rw [List.nodup_cons] at hnd
      rw [List.foldl_cons, ih hnd.2]
      have ha : mask (Shape.ofLane a) = 1 ↔ a = k := by
        rw [hm]; exact ⟨fun e => Fin.ext e, fun e => e ▸ rfl⟩
      by_cases hak : a = k
      · subst hak
        rw [if_neg hnd.1, if_pos (ha.mpr rfl), if_pos (List.mem_cons_self ..)]
        funext i
        unfold bump
        have hi : (∀ b, (i b).val = (idxAt ![v] h (Shape.ofLane a) b).val) ↔ (i 0).val = (v (Shape.ofLane a)).toNat :=
          ⟨fun e => e 0, fun e b => by obtain rfl : b = 0 := Subsingleton.elim _ _; exact e⟩
        by_cases hh : (i 0).val = (v (Shape.ofLane a)).toNat
        · rw [if_pos hh, if_pos (hi.mpr hh)]
          congr 2
          funext b; obtain rfl : b = 0 := Subsingleton.elim _ _
          exact Fin.ext hh.symm
        · rw [if_neg hh, if_neg (fun e => hh (hi.mp e))]
      · rw [if_neg (fun e => hak (ha.mp e))]
        simp only [List.mem_cons, Ne.symm hak, false_or]
  have := step (List.finRange 16) (List.nodup_finRange 16) f
  rw [if_pos (List.mem_finRange k)] at this
  refine Eq.trans ?_ this
  unfold storeIdx
  simp only [if_true, Elt.idxAdd_f32]
  rfl

end Cert.Proof.K

end
-- ==== Proof.Tile.lean ====
/-
  One SparseCore task, run at a symbolic SparseCore and tile: it fetches its 512 edges, zeroes its accumulator, adds one
  per edge, and writes the accumulator to its stretch of the counts.
-/
module

public import proofs.«01_k».proof.Proof.Counts

@[expose] public section

noncomputable section

namespace Cert.Proof.K

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

-- the kernel's memrefs, spelt as the body table passes them
local notation "sW" => (Memref.whole Cert.KernelIdeal.main_v6_scv : Memref Cert.KernelIdeal.sig Kind.scVector Space.hbm Cert.KernelIdeal.S16384 EltTy.i32)
local notation "tW" => (Memref.whole Cert.KernelIdeal.main_v8_scv : Memref Cert.KernelIdeal.sig Kind.scVector Space.hbm Cert.KernelIdeal.S16384 EltTy.i32)
local notation "oW" => (Memref.whole Cert.KernelIdeal.main_v9_scv : Memref Cert.KernelIdeal.sig Kind.scVector Space.hbm Cert.KernelIdeal.S2097152 EltTy.f32)
local notation "bS" => (Memref.whole Cert.KernelIdeal.cc1_scratch0 : Memref Cert.KernelIdeal.sig Kind.scVector Space.vmem Cert.KernelIdeal.S512 EltTy.i32)
local notation "bT" => (Memref.whole Cert.KernelIdeal.cc1_scratch1 : Memref Cert.KernelIdeal.sig Kind.scVector Space.vmem Cert.KernelIdeal.S512 EltTy.i32)
local notation "bA" => (Memref.whole Cert.KernelIdeal.cc1_scratch2 : Memref Cert.KernelIdeal.sig Kind.scVector Space.vmem Cert.KernelIdeal.S65536 EltTy.f32)

abbrev cV (L : grid1.Coords) : Fin τ.nSC := (L 0).castLE hcore1
abbrev jV (L : grid1.Coords) : Fin τ.nSub := (L 1).castLE hsub1
/-- The thread of the task at `L`. -/
abbrev thr (d : Dev nD) (L : grid1.Coords) : Thread nD τ := V d (cV L) (jV L)
/-- The task's number. -/
def wid (L : grid1.Coords) : ℕ := 2 * (L 1).val + (L 0).val

/-- The task's stretch of the edges, and of the counts. -/
abbrev eRect (L : grid1.Coords) : Rect S16384 := Rect.unit (s := S16384) (k1_off1 L) S512.size (k1_off1_inb L)
abbrev oRect (L : grid1.Coords) : Rect S2097152 := Rect.unit (s := S2097152) (k1_off4 L) S65536.size (k1_off4_inb L)
abbrev eSet (L : grid1.Coords) : Finset S16384.Idx := (eRect L).set
abbrev oSet (L : grid1.Coords) : Finset S2097152.Idx := (oRect L).set

section Tile

variable (d : Dev nD) (L : grid1.Coords)

abbrev cell0 : GSem nD τ sig := (thr d L, .dma cc1_scoped0.sem)
abbrev cell1 : GSem nD τ sig := (thr d L, .dma cc1_scoped1.sem)
abbrev cell2 : GSem nD τ sig := (thr d L, .dma cc1_scoped2.sem)

omit [FloatOps F] in
theorem pts_s (f : Buf (Elt F) (sLoc d)) :
    (((sW).slice (eRect L) (fun _ => rfl)).view.loc (thr d L) ↦[((sW).slice (eRect L) (fun _ => rfl)).view.set]{fullShare} f : sProp 𝕄)
      = sLoc d ↦[eSet L]{fullShare} f := by
  rw [show ((sW).slice (eRect L) (fun _ => rfl)).view.set = eSet L from (View.set_slice _ _).trans Finset.map_refl]
omit [FloatOps F] in
theorem pts_t (f : Buf (Elt F) (tLoc d)) :
    (((tW).slice (eRect L) (fun _ => rfl)).view.loc (thr d L) ↦[((tW).slice (eRect L) (fun _ => rfl)).view.set]{fullShare} f : sProp 𝕄)
      = tLoc d ↦[eSet L]{fullShare} f := by
  rw [show ((tW).slice (eRect L) (fun _ => rfl)).view.set = eSet L from (View.set_slice _ _).trans Finset.map_refl]
omit [FloatOps F] in
theorem pts_o (f : Buf (Elt F) (oLoc d)) :
    (((oW).slice (oRect L) (fun _ => rfl)).view.loc (thr d L) ↦[((oW).slice (oRect L) (fun _ => rfl)).view.set]{fullShare} f : sProp 𝕄)
      = oLoc d ↦[oSet L]{fullShare} f := by
  rw [show ((oW).slice (oRect L) (fun _ => rfl)).view.set = oSet L from (View.set_slice _ _).trans Finset.map_refl]
omit [FloatOps F] in
theorem pts_bS (f : Buf (Elt F) ((thr d L).loc cc1_scratch0)) :
    ((bS).view.loc (thr d L) ↦{fullShare} f : sProp 𝕄) = (thr d L).loc cc1_scratch0 ↦{fullShare} f := rfl
omit [FloatOps F] in
theorem pts_bT (f : Buf (Elt F) ((thr d L).loc cc1_scratch1)) :
    ((bT).view.loc (thr d L) ↦{fullShare} f : sProp 𝕄) = (thr d L).loc cc1_scratch1 ↦{fullShare} f := rfl
omit [FloatOps F] in
theorem pts_bA (f : Buf (Elt F) ((thr d L).loc cc1_scratch2)) :
    ((bA).view.loc (thr d L) ↦{fullShare} f : sProp 𝕄) = (thr d L).loc cc1_scratch2 ↦{fullShare} f := rfl

omit [FloatOps F] in
theorem ownSems0_V :
    (ownSems0 (thr d L) : sProp 𝕄)
      = iprop(semVal (cell0 d L) 0 ∗ semVal (cell1 d L) 0 ∗ semVal (cell2 d L) 0
          ∗ bigSep ((((ownCells (thr d L)).erase (cell0 d L)).erase (cell1 d L)).erase (cell2 d L)) fun g => semVal g 0) := by
  unfold SparseCore.Cfg.ownSems0
  rw [SparseCore.bigSep_erase' ((mem_ownCells (g := cell0 d L)).mpr ⟨rfl, by
      show (SemLoc.dma cc1_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc1_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc1_scoped2.sem : SemLoc sig).isScoped .scVector = true; decide⟩⟩⟩)]

omit [FloatOps F] in
/-- The three scratch buffers are among the subcore's own. -/
theorem ownBufs_V :
    (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

/-! ## The zeroing loop -/

/-- The accumulator is zero below `n`. -/
def ZeroBelow (n : ℕ) (f : S65536.Idx → F .f32) : Prop := ∀ j : S65536.Idx, (j 0).val < n → f j = zeroF

def inv1 (n : ℕ) (_ : PUnit) : sProp 𝕄 :=
  iprop(∃ f, ⌜ZeroBelow (256 * n) f⌝ ∗ (thr d L).loc cc1_scratch2 ↦{fullShare} f)

/-- One store of sixteen zeros, where the zeros end. -/
theorem zero_step (k : Fin k1_t1_loop.trips) (r : Fin 16) (f : S65536.Idx → F .f32) (P : List (View.Piece (Elt F) S65536 .f32))
    (h : ZeroBelow (256 * k.val + 16 * r.val) ((bA).view.writes (Elt F) f P : S65536.Idx → F .f32)) :
    ZeroBelow (256 * k.val + 16 * (r.val + 1))
      ((bA).view.writes (Elt F) f (⟨Rect.unit (s := S65536) (k1_off2 k (BitVec.ofNat 32 (16 * r.val))) S16.size (k1_off2_inb k r), k1_pay1⟩ :: P)
        : S65536.Idx → F .f32) := by
  intro j hj
  have ho : (Rect.unit (s := S65536) (k1_off2 k (BitVec.ofNat 32 (16 * r.val))) S16.size (k1_off2_inb k r)).off 0 = 256 * k.val + 16 * r.val :=
    congrFun (k1_off2_eq k r) 0
  by_cases hlt : (j 0).val < 256 * k.val + 16 * r.val
  · have hm := View.read_writes_cons_miss_of_axis (Val := Elt F) (bA).view f
      ⟨Rect.unit (s := S65536) (k1_off2 k (BitVec.ofNat 32 (16 * r.val))) S16.size (k1_off2_inb k r), k1_pay1⟩
      P j 0 _ 16 ho rfl rfl (.inl hlt)
    have hr : View.read (Elt F) (bA).view ((bA).view.writes (Elt F) f P) j = zeroF := h j hlt
    exact hm.trans hr
  · refine (View.read_writes_cons_hit_of_coords (bA).view f
      (Rect.unit (s := S65536) (k1_off2 k (BitVec.ofNat 32 (16 * r.val))) S16.size (k1_off2_inb k r)) k1_pay1 P
      (fun a => ⟨(j 0).val - (256 * k.val + 16 * r.val), by
        have ha : a = (0 : Fin 1) := Subsingleton.elim (α := Fin 1) _ _
        subst ha; show _ < 16; omega⟩) j ?_).trans rfl
    intro a
    have ha : a = (0 : Fin 1) := Subsingleton.elim (α := Fin 1) _ _
    subst ha
    refine Eq.trans ?_ (congrArg (· + 1 * ((j 0).val - (256 * k.val + 16 * r.val))) ho.symm)
    show (j 0).val = _ + 1 * ((j 0).val - _)
    omega

theorem trip1 (k : Fin k1_t1_loop.trips) (u : Unit) (f : S65536.Idx → F .f32) (hf : ZeroBelow (256 * k.val) f) :
    ((thr d L).loc cc1_scratch2 ↦{fullShare} f : sProp 𝕄)
      ⊢ wp frame (wpE (defs₀ (F := F)) 𝒱₀ (thr d L) none) Set.univ
          (k1_t1_body (F := F) L sW (Memref.isWhole_whole _) tW (Memref.isWhole_whole _) oW (Memref.isWhole_whole _)
            bS (Memref.isWhole_whole _) bT (Memref.isWhole_whole _) bA (Memref.isWhole_whole _) cc1_scoped0 cc1_scoped1 cc1_scoped2 k u)
          fun _ => iprop(∃ f, ⌜ZeroBelow (256 * (k.val + 1)) f⌝ ∗ (thr d L).loc cc1_scratch2 ↦{fullShare} f) := by
  unfold k1_t1_body
  simp only [k1_part1_eq_skeleton, k1_part2_eq_skeleton]
  unfold k1_part1_skel k1_part2_skel
  simp only [Prog.lift, Prog.bind_op, Prog.bind_ret, Prog.pure_eq_ret]
  iintro HA
  ihave HA' := (Entails.of_eq (pts_bA (F := F) d L _).symm) $$ HA
  sl_exec
  sl_step
  iexists _
  isplitr
  rotate_left
  · iexact HA'
  ipureintro
  rw [show 256 * (k.val + 1) = 256 * k.val + 16 * ((15 : Fin 16).val + 1) by show _ = _ + 16 * 16; omega]
  refine zero_step k 15 f _ (zero_step k 14 f _ (zero_step k 13 f _ (zero_step k 12 f _ (zero_step k 11 f _ (zero_step k 10 f _
    (zero_step k 9 f _ (zero_step k 8 f _ (zero_step k 7 f _ (zero_step k 6 f _ (zero_step k 5 f _ (zero_step k 4 f _
    (zero_step k 3 f _ (zero_step k 2 f _ (zero_step k 1 f _ (zero_step k 0 f _ ?_)))))))))))))))
  exact hf

/-! ## The counting loop -/

/-- One masked scatter-add of a trip: the accumulator counts one more edge. -/
theorem wp_bump {α : Type} (w : ℕ → BitVec 32) (n : ℕ) (v : IVec S16 32) (mask : IVec S16 1)
    (h : ∀ a x, ((![v] : Fin 1 → IVec S16 32) a x).toNat < S65536.size a) (hs : ((bA).access (.whole S65536)).Stores Finset.univ)
    (l : Fin 16) (hm : ∀ x : S16.Idx, mask x = 1 ↔ (x 0).val = l.val) (hv : v (Shape.ofLane l) = w n)
    {kk : PUnit → Prog (TpuEff nD τ sig (Elt F) Λ₀ (thr d L).2) α} {Q : α → sProp 𝕄} :
    ((thr d L).loc cc1_scratch2 ↦{fullShare} runs (F := F) w n : sProp 𝕄)
      ⊢ iprop(((((thr d L).loc cc1_scratch2 ↦{fullShare} runs (F := F) w (n + 1)) : sProp 𝕄)
          -∗ wp frame (wpE (defs₀ (F := F)) 𝒱₀ (thr d L) none) Set.univ (kk ⟨⟩) Q)
        -∗ wp frame (wpE (defs₀ (F := F)) 𝒱₀ (thr d L) none) Set.univ
            (SparseCore.vectorStoreIdx (bA) ![v] (k1_pay2 (F := F)) mask true h hs >>= kk) Q) := by
  have hw := SparseCore.wp_vectorStoreIdx (F := F) (defs := defs₀ (F := F)) 𝒱₀ (thr d L) none Set.univ (base := (bA)) (idxs := ![v])
    (v := (k1_pay2 (F := F))) (mask := mask) (add := true) (h := h) (hs := hs) (k := kk) (Q := Q) (f := runs (F := F) w n)
  rw [Memref.set_access_whole, Memref.write_access_whole_univ] at hw
  rw [Memref.read_access_whole] at hw
  have e : storeIdx (F := F) (s := S65536) (e := .f32) (runs (F := F) w n) ![v] (k1_pay2 (F := F)) mask true h = runs (F := F) w (n + 1) := by
    refine (storeIdx_lane (F := F) (runs (F := F) w n) v mask h l hm).trans ?_
    rw [hv]; rfl
  rw [← e]
  exact hw

/-- The same at lane `l` of trip `k`. -/
theorem bump_at {α : Type} (w : ℕ → BitVec 32) (k : Fin k1_t2_loop.trips) (v : IVec S16 32)
    (hv : ∀ l : Fin 16, v (Shape.ofLane l) = w (16 * k.val + l.val)) (l : Fin 16)
    (h : ∀ a x, ((![v] : Fin 1 → IVec S16 32) a x).toNat < S65536.size a) (hs : ((bA).access (.whole S65536)).Stores Finset.univ)
    {kk : PUnit → Prog (TpuEff nD τ sig (Elt F) Λ₀ (thr d L).2) α} {Q : α → sProp 𝕄} :
    ((thr d L).loc cc1_scratch2 ↦{fullShare} runs (F := F) w (16 * k.val + l.val) : sProp 𝕄)
      ⊢ iprop(((((thr d L).loc cc1_scratch2 ↦{fullShare} runs (F := F) w (16 * k.val + l.val + 1)) : sProp 𝕄)
          -∗ wp frame (wpE (defs₀ (F := F)) 𝒱₀ (thr d L) none) Set.univ (kk ⟨⟩) Q)
        -∗ wp frame (wpE (defs₀ (F := F)) 𝒱₀ (thr d L) none) Set.univ
            (SparseCore.vectorStoreIdx (bA) ![v] (k1_pay2 (F := F))
              (cmpi .eq (iota .scVector S16 32 [0] iota_S16_d0_w32_scVector) (broadcast S16 (BitVec.ofNat 32 l.val))) true h hs >>= kk) Q) :=
  wp_bump d L w _ v _ h hs l (fun x => lane_mask l.val l.isLt x) (hv l)

/-- The positions a trip loads: lane `l` of trip `k` is edge `16 k + l` of the task. -/
theorem trip_word (k : Fin k1_t2_loop.trips) (w : ℕ → BitVec 32) (gs gt : S512.Idx → BitVec 32)
    (hw : ∀ j : S512.Idx, gs j * 256#32 + gt j = w (j 0).val) (x : S16.Idx) :
    k1_pay7 (F := F) (View.readAt (Elt F) (bS).view (Rect.unit (s := S512) (k1_off3 k) S16.size (k1_off3_inb k)).toLoadRect gs)
      (View.readAt (Elt F) (bT).view (Rect.unit (s := S512) (k1_off3 k) S16.size (k1_off3_inb k)).toLoadRect gt) x = w (16 * k.val + (x 0).val) := by
  refine (hw ((Rect.unit (s := S512) (k1_off3 k) S16.size (k1_off3_inb k)).emb x)).trans ?_
  congr 1
  show k1_off3 k 0 + 1 * (x 0).val = _
  rw [k1_off3_eq]
  show 16 * k.val + 1 * (x 0).val = _
  omega

theorem trip2 (k : Fin k1_t2_loop.trips) (u : Unit) (w : ℕ → BitVec 32) (gs gt : S512.Idx → BitVec 32)
    (hw : ∀ j : S512.Idx, gs j * 256#32 + gt j = w (j 0).val) (hb : ∀ n, (w n).toNat < 65536) :
    (iprop(((thr d L).loc cc1_scratch0 ↦{fullShare} gs) ∗ ((thr d L).loc cc1_scratch1 ↦{fullShare} gt)
        ∗ ((thr d L).loc cc1_scratch2 ↦{fullShare} runs w (16 * k.val))) : sProp 𝕄)
      ⊢ wp frame (wpE (defs₀ (F := F)) 𝒱₀ (thr d L) none) Set.univ
          (k1_t2_body (F := F) L sW (Memref.isWhole_whole _) tW (Memref.isWhole_whole _) oW (Memref.isWhole_whole _)
            bS (Memref.isWhole_whole _) bT (Memref.isWhole_whole _) bA (Memref.isWhole_whole _) cc1_scoped0 cc1_scoped1 cc1_scoped2
            (iota .scVector S16 32 [0] iota_S16_d0_w32_scVector) k u)
          fun _ => iprop(((thr d L).loc cc1_scratch0 ↦{fullShare} gs) ∗ ((thr d L).loc cc1_scratch1 ↦{fullShare} gt)
        ∗ ((thr d L).loc cc1_scratch2 ↦{fullShare} runs (F := F) w (16 * (k.val + 1)))) := by
  unfold k1_t2_body
  simp only [k1_part3_eq_skeleton]
  unfold k1_part3_skel
  simp only [Prog.lift, Prog.bind_op, Prog.bind_ret, Prog.pure_eq_ret, bind_assoc, pure_bind]
  iintro ⟨H0, H1, HA⟩
  ihave H0 := (Entails.of_eq (pts_bS (F := F) d L _).symm) $$ H0
  ihave H1 := (Entails.of_eq (pts_bT (F := F) d L _).symm) $$ H1
  sl_exec
  generalize hv : k1_pay7 (F := F) _ _ = v
  have hvw : ∀ l : Fin 16, v (Shape.ofLane l) = w (16 * k.val + l.val) := fun l => by
    rw [← hv]; exact trip_word k w gs gt hw _
  have hlt : ∀ a x, ((![v] : Fin 1 → IVec S16 32) a x).toNat < S65536.size a := fun a x => by
    obtain rfl : a = 0 := Subsingleton.elim _ _
    show (v x).toNat < 65536
    rw [← hv, trip_word k w gs gt hw]; exact hb _
  iapply (wp_assume _ _ _ _ (show k1_chk1 v from ⟨hlt, hlt, hlt, hlt, hlt, hlt, hlt, hlt, hlt, hlt, hlt, hlt, hlt, hlt, hlt, hlt⟩))
  iapply (bump_at (F := F) d L w k v hvw 0 _ _) $$ HA
  iintro HA
  iapply (bump_at (F := F) d L w k v hvw 1 _ _) $$ HA
  iintro HA
  iapply (bump_at (F := F) d L w k v hvw 2 _ _) $$ HA
  iintro HA
  iapply (bump_at (F := F) d L w k v hvw 3 _ _) $$ HA
  iintro HA
  iapply (bump_at (F := F) d L w k v hvw 4 _ _) $$ HA
  iintro HA
  iapply (bump_at (F := F) d L w k v hvw 5 _ _) $$ HA
  iintro HA
  iapply (bump_at (F := F) d L w k v hvw 6 _ _) $$ HA
  iintro HA
  iapply (bump_at (F := F) d L w k v hvw 7 _ _) $$ HA
  iintro HA
  iapply (bump_at (F := F) d L w k v hvw 8 _ _) $$ HA
  iintro HA
  iapply (bump_at (F := F) d L w k v hvw 9 _ _) $$ HA
  iintro HA
  iapply (bump_at (F := F) d L w k v hvw 10 _ _) $$ HA
  iintro HA
  iapply (bump_at (F := F) d L w k v hvw 11 _ _) $$ HA
  iintro HA
  iapply (bump_at (F := F) d L w k v hvw 12 _ _) $$ HA
  iintro HA
  iapply (bump_at (F := F) d L w k v hvw 13 _ _) $$ HA
  iintro HA
  iapply (bump_at (F := F) d L w k v hvw 14 _ _) $$ HA
  iintro HA
  iapply (bump_at (F := F) d L w k v hvw 15 _ _) $$ HA
  iintro HA
  sl_step
  isplitl [H0]
  · iexact H0
  isplitl [H1]
  · iexact H1
  iexact HA

/-! ## The task -/

/-- The task's stretch of the edges' sources and of their targets. -/
abbrev srcAt (fs : Buf (Elt F) (sLoc d)) : S512.Idx → BitVec 32 := fun j => fs ((eRect L).emb j)
abbrev tgtAt (ft : Buf (Elt F) (tLoc d)) : S512.Idx → BitVec 32 := fun j => ft ((eRect L).emb j)

def inv2 (fs : Buf (Elt F) (sLoc d)) (ft : Buf (Elt F) (tLoc d)) (n : ℕ) (_ : PUnit) : sProp 𝕄 :=
  iprop(((thr d L).loc cc1_scratch0 ↦{fullShare} srcAt (F := F) d L fs) ∗ ((thr d L).loc cc1_scratch1 ↦{fullShare} tgtAt (F := F) d L ft)
    ∗ ((thr d L).loc cc1_scratch2 ↦{fullShare} runs (F := F) (taskWord fs ft (wid L)) (16 * n)))

theorem fetched_s (f0 : Buf (Elt F) ((thr d L).loc cc1_scratch0)) (fs : Buf (Elt F) (sLoc d)) :
    ((bS).view.loc (thr d L) ↦{fullShare} View.write (Elt F) (bS).view f0
        (View.read (Elt F) ((sW).slice (eRect L) (fun _ => rfl)).view fs) Finset.univ : sProp 𝕄)
      = ((thr d L).loc cc1_scratch0 ↦{fullShare} srcAt (F := F) d L fs) := by
  rw [View.write_whole_univ]; rfl

theorem fetched_t (f1 : Buf (Elt F) ((thr d L).loc cc1_scratch1)) (ft : Buf (Elt F) (tLoc d)) :
    ((bT).view.loc (thr d L) ↦{fullShare} View.write (Elt F) (bT).view f1
        (View.read (Elt F) ((tW).slice (eRect L) (fun _ => rfl)).view ft) Finset.univ : sProp 𝕄)
      = ((thr d L).loc cc1_scratch1 ↦{fullShare} tgtAt (F := F) d L ft) := by
  rw [View.write_whole_univ]; rfl

/-- The positions of the task's edges, from its two fetched stretches. -/
theorem task_words (fs : Buf (Elt F) (sLoc d)) (ft : Buf (Elt F) (tLoc d)) (j : S512.Idx) :
    srcAt (F := F) d L fs j * 256#32 + tgtAt (F := F) d L ft j = taskWord fs ft (wid L) (j 0).val := by
  have he : (eRect L).emb j = eIx (512 * wid L + (j 0).val) := by
    funext a
    obtain rfl : a = 0 := Subsingleton.elim _ _
    refine Fin.ext ?_
    have h0 : (L 0).val < 2 := (L 0).isLt
    have h1 : (L 1).val < 16 := (L 1).isLt
    have hj : (j 0).val < 512 := (j 0).isLt
    show k1_off1 L 0 + 1 * (j 0).val = (512 * (2 * (L 1).val + (L 0).val) + (j 0).val) % 16384
    rw [k1_off1_eq]
    show 1024 * (L 1).val + 512 * (L 0).val + 1 * (j 0).val = _
    omega
  unfold taskWord edgeWord
  rw [← he]

/-- Ends in range give positions in range. -/
theorem task_lt (fs ft : S16384.Idx → BitVec 32) (hs : ∀ j, (fs j).toNat < 256) (ht : ∀ j, (ft j).toNat < 256) (t n : ℕ) :
    (taskWord fs ft t n).toNat < 65536 := by
  unfold taskWord edgeWord
  have h1 := hs (eIx (512 * t + n))
  have h2 := ht (eIx (512 * t + n))
  rw [BitVec.toNat_add, BitVec.toNat_mul, BitVec.toNat_ofNat]
  omega

omit [FloatOps F] in
/-- A read of the task's stretch of the counts. -/
theorem read_out (f : Buf (Elt F) (oLoc d)) (x : (oRect L).shape.Idx) :
    View.read (Elt F) ((oW).slice (oRect L) (fun _ => rfl)).view f x = f ((oRect L).emb x) := rfl

/-- The task's copy of its accumulator leaves its stretch of the counts. -/
theorem out_eq (fs : Buf (Elt F) (sLoc d)) (ft : Buf (Elt F) (tLoc d)) (fo : Buf (Elt F) (oLoc d)) (i : S2097152.Idx) (hi : i ∈ oSet L) :
    (((oW).slice (oRect L) (fun _ => rfl)).view.writes (Elt F) fo
      [⟨Rect.whole (oRect L).shape, runs (F := F) (taskWord fs ft (wid L)) 512⟩] : S2097152.Idx → F .f32) i = countsOf (F := F) fs ft i := by
  obtain ⟨x, -, rfl⟩ : ∃ x ∈ Finset.univ, (oRect L).emb x = i := by
    have hi' : i ∈ Finset.univ.map (oRect L).emb := (oRect L).map_emb_univ ▸ hi
    exact Finset.mem_map.mp hi'
  have hm := View.read_writes_cons_hit_of_coords (Val := Elt F) ((oW).slice (oRect L) (fun _ => rfl)).view fo (Rect.whole (oRect L).shape)
    (runs (F := F) (taskWord fs ft (wid L)) 512) [] x x (fun a => by show _ = 0 + 1 * (x a).val; omega)
  rw [read_out d L] at hm
  refine hm.trans ?_
  have h0 : (L 0).val < 2 := (L 0).isLt
  have h1 : (L 1).val < 16 := (L 1).isLt
  have hx : (x 0).val < 65536 := (x 0).isLt
  have he : (((oRect L).emb x) 0).val = 65536 * wid L + (x 0).val := by
    show k1_off4 L 0 + 1 * (x 0).val = 65536 * (2 * (L 1).val + (L 0).val) + (x 0).val
    rw [k1_off4_eq]
    show 131072 * (L 1).val + 65536 * (L 0).val + 1 * (x 0).val = _
    omega
  show _ = runs (F := F) (taskWord fs ft ((((oRect L).emb x) 0).val / 65536)) 512 (aIx (((oRect L).emb x) 0).val)
  rw [he, show (65536 * wid L + (x 0).val) / 65536 = wid L by omega]
  refine congrArg (runs (F := F) (taskWord fs ft (wid L)) 512) (funext fun a => Fin.ext ?_)
  have ha : a = (0 : Fin 1) := Subsingleton.elim (α := Fin 1) _ _
  subst ha
  have hmod : (65536 * wid L + (x 0).val) % 65536 = (x 0).val := by omega
  exact hmod.symm

/-- What the task is handed: its stretch of the edges' ends, and of the counts at whatever they hold; and what it hands
    back: the same, its stretch of the counts at the counts. -/
abbrev goP (fs : Buf (Elt F) (sLoc d)) (ft : Buf (Elt F) (tLoc d)) : sProp 𝕄 :=
  iprop((sLoc d ↦[eSet L]{fullShare} fs) ∗ (tLoc d ↦[eSet L]{fullShare} ft) ∗ ∃ f, oLoc d ↦[oSet L]{fullShare} f)
abbrev tdP (fs : Buf (Elt F) (sLoc d)) (ft : Buf (Elt F) (tLoc d)) : sProp 𝕄 :=
  iprop((sLoc d ↦[eSet L]{fullShare} fs) ∗ (tLoc d ↦[eSet L]{fullShare} ft) ∗ oLoc d ↦[oSet L]{fullShare} countsOf (F := F) fs ft)

theorem tile_body (hF : (K (F := F)).Facts) (fs : Buf (Elt F) (sLoc d)) (ft : Buf (Elt F) (tLoc d))
    (hs : ∀ j, (fs j : BitVec 32).toNat < 256) (ht : ∀ j, (ft j : BitVec 32).toNat < 256)
    (O : CellTallies nD τ sig (HIx 1)) (W : Waits sig (HIx 1)) (hO : ∀ g, O g none = 0) :
    iprop(levAts (K (F := F)).L (K (F := F)).lev ∗ emp
        ∗ goP d L fs ft
        ∗ scopedBufs (thr d L) ∗ scopedSems0 (thr d L) ∗ owes (thr d L) O W)
      ⊢ wp frame (wpE (defs₀ (F := F)) 𝒱₀ (thr d L) none) Set.univ
          (cc1__paircount_body L sW (Memref.isWhole_whole _) tW (Memref.isWhole_whole _) oW (Memref.isWhole_whole _)
            bS (Memref.isWhole_whole _) bT (Memref.isWhole_whole _) bA (Memref.isWhole_whole _) cc1_scoped0 cc1_scoped1 cc1_scoped2)
          fun _ => iprop(tdP d L fs ft
            ∗ scopedBufs (thr d L) ∗ scopedSems0 (thr d L) ∗ ∃ W', ⌜∀ p ∈ W', p ∈ W ∨ p.2 = none⌝ ∗ owes (thr d L) O W') := by
  simp only [cc1__paircount_body_eq_skeleton]; unfold cc1__paircount_body_skel
  rw [(K (F := F)).scopedBufs_V hF d (cV L) (jV L), SparseCore.Cfg.scopedSems0_V (Val := Elt F) d (cV L) (jV L), ownSems0_V, ownBufs_V]
  iintro ⟨#Hlv, -, ⟨Hs, Ht, %fo, Ho⟩, ⟨⟨%f0, H0⟩, ⟨%f1, H1⟩, ⟨%f2, H2⟩, Hbufs⟩, ⟨Hm0, Hm1, Hm2, Hsems⟩, HO⟩
  ihave Hmw := ((K (F := F)).mayWaits_none (thr := thr d L) hO) $$ Hlv
  ihave Hs' := (Entails.of_eq (pts_s (F := F) d L _).symm) $$ Hs
  ihave Ht' := (Entails.of_eq (pts_t (F := F) d L _).symm) $$ Ht
  ihave Ho' := (Entails.of_eq (pts_o (F := F) d L _).symm) $$ Ho
  ihave H0' := (Entails.of_eq (pts_bS (F := F) d L _).symm) $$ H0
  ihave H1' := (Entails.of_eq (pts_bT (F := F) d L _).symm) $$ H1
  sl_exec
  sl_for (inv1 (F := F) d L) $$ [H2]
  case region =>
    intro k u
    unfold inv1
    iintro ⟨%f, %hf, HA⟩
    iapply (trip1 (F := F) d L k u f hf); iexact HA
  · unfold inv1; iexists f2; isplitr
    · ipureintro; exact fun j hj => absurd hj (by simp)
    · iexact H2
  iintro %_ HI
  unfold inv1
  icases HI with ⟨%f, %hf, HA⟩
  have hz : f = runs (F := F) (taskWord fs ft (wid L)) (16 * 0) := funext fun j => hf j (by
    show _ < 256 * 256
    exact (j 0).isLt)
  subst hz
  ihave H0 := (Entails.of_eq (show ((bS).view.loc (thr d L) ↦{fullShare} View.write (Elt F) (bS).view f0 (tile_body.sl.dma0 d L fs) Finset.univ : sProp 𝕄) = _ from fetched_s (F := F) d L f0 fs)) $$ H0'
  ihave H1 := (Entails.of_eq (show ((bT).view.loc (thr d L) ↦{fullShare} View.write (Elt F) (bT).view f1 (tile_body.sl.dma0_1 d L ft) Finset.univ : sProp 𝕄) = _ from fetched_t (F := F) d L f1 ft)) $$ H1'
  sl_exec
  sl_for (inv2 (F := F) d L fs ft) $$ [H0 H1 HA]
  case region =>
    intro k u
    unfold inv2
    iintro H
    iapply (trip2 (F := F) d L k u _ _ _ (task_words d L fs ft) (task_lt fs ft hs ht _)); iexact H
  · unfold inv2; isplitl [H0]
    · iexact H0
    isplitl [H1]
    · iexact H1
    iexact HA
  iintro %_ HI
  unfold inv2
  icases HI with ⟨H0, H1, HA⟩
  ihave HA := (Entails.of_eq (pts_bA (F := F) d L _).symm) $$ HA
  sl_exec
  sl_step
  isplitl [Hs' Ht' Ho']
  · ihave Hs := (Entails.of_eq (pts_s (F := F) d L _)) $$ Hs'
    ihave Ht := (Entails.of_eq (pts_t (F := F) d L _)) $$ Ht'
    ihave Ho := (Entails.of_eq (pts_o (F := F) d L _)) $$ Ho'
    ihave Ho := (Entails.of_eq (pointsTo_congr (out_eq (F := F) d L fs ft fo))) $$ Ho
    isplitl [Hs]
    · iexact Hs
    isplitl [Ht]
    · iexact Ht
    iexact Ho
  isplitl [H0 H1 HA Hbufs]
  · isplitl [H0]
    · iexists _; iexact H0
    isplitl [H1]
    · iexists _; iexact H1
    isplitl [HA]
    · iexists _; iexact HA
    iexact Hbufs
  isplitl [Hm0 Hm1 Hm2 Hsems]
  · isplitl [Hm0]
    · iexact Hm0
    isplitl [Hm1]
    · iexact Hm1
    isplitl [Hm2]
    · iexact Hm2
    iexact Hsems
  iexists _
  isplitr
  rotate_left
  · iexact HO
  ipureintro
  intro p hp
  simp only [Finset.mem_insert] at hp
  rcases hp with rfl | rfl | rfl | hp
  · exact .inr rfl
  · exact .inr rfl
  · exact .inr rfl
  · exact .inl hp

end Tile

end Cert.Proof.K

end
-- ==== Proof.Launch.lean ====
/-
  The SparseCore call as the launch sees it: what the handshakes carry, each task's obligation, the arrays dealt out to the
  32 tasks and joined again, and the ghost state the launch starts from.
-/
module

public import proofs.«01_k».proof.Proof.Tile

@[expose] public section

noncomputable section

namespace Cert.Proof.K

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The tasks' numbers -/

def coordsV (c : Fin (grid1.bound 0)) (s : Fin (grid1.bound 1)) : grid1.Coords :=
  fun | 0 => c | 1 => s | ⟨_ + 2, h⟩ => absurd h (Nat.not_lt.2 (Nat.le_add_left _ _))

/-- The grid point of SparseCore `c`'s tile `i`. -/
abbrev pt (c : Fin ((K (F := F)).nCore 0)) (i : Fin ((K (F := F)).nSub 0)) : grid1.Coords :=
  coordsV ⟨((K (F := F)).core 0 c).val, c.isLt⟩ ⟨((K (F := F)).sub 0 i).val, i.isLt⟩

abbrev Task : Type := Fin ((K (F := F)).nCore 0) × Fin ((K (F := F)).nSub 0)

omit [FloatOps F] in
theorem wid_pt (t : Task (F := F)) : wid (pt t.1 t.2) = 2 * t.2.val + t.1.val := rfl

omit [FloatOps F] in
theorem task_lt_two (t : Task (F := F)) : t.1.val < 2 := t.1.isLt
omit [FloatOps F] in
theorem task_lt_16 (t : Task (F := F)) : t.2.val < 16 := t.2.isLt

omit [FloatOps F] in
theorem wid_ne {t t' : Task (F := F)} (h : t ≠ t') : wid (pt t.1 t.2) ≠ wid (pt t'.1 t'.2) := fun e => by
  rw [wid_pt, wid_pt] at e
  have h1 := task_lt_two t; have h2 := task_lt_two t'
  exact h (Prod.ext (Fin.ext (by omega)) (Fin.ext (by omega)))

theorem mem_eSet (L : grid1.Coords) (i : S16384.Idx) : i ∈ eSet L ↔ 512 * wid L ≤ (i 0).val ∧ (i 0).val < 512 * wid L + 512 := by
  rw [Rect.mem_set_unit, k1_off1_eq]
  have e : (![1024 * (L 1).val + 512 * (L 0).val] : Fin 1 → ℕ) 0 = 512 * wid L := by
    show 1024 * (L 1).val + 512 * (L 0).val = 512 * (2 * (L 1).val + (L 0).val); omega
  constructor
  · intro h
    have := h 0
    rw [e] at this
    exact this
  · intro h a
    have ha : a = (0 : Fin 1) := Subsingleton.elim (α := Fin 1) _ _
    subst ha
    rw [e]
    exact h

theorem mem_oSet (L : grid1.Coords) (i : S2097152.Idx) : i ∈ oSet L ↔ 65536 * wid L ≤ (i 0).val ∧ (i 0).val < 65536 * wid L + 65536 := by
  rw [Rect.mem_set_unit, k1_off4_eq]
  have e : (![131072 * (L 1).val + 65536 * (L 0).val] : Fin 1 → ℕ) 0 = 65536 * wid L := by
    show 131072 * (L 1).val + 65536 * (L 0).val = 65536 * (2 * (L 1).val + (L 0).val); omega
  constructor
  · intro h
    have := h 0
    rw [e] at this
    exact this
  · intro h a
    have ha : a = (0 : Fin 1) := Subsingleton.elim (α := Fin 1) _ _
    subst ha
    rw [e]
    exact h

omit [FloatOps F] in
theorem eSets_disjoint : ∀ t ∈ (Finset.univ : Finset (Task (F := F))), ∀ t' ∈ (Finset.univ : Finset (Task (F := F))), t ≠ t' →
    Disjoint (eSet (pt t.1 t.2)) (eSet (pt t'.1 t'.2)) := fun t _ t' _ h =>
  Finset.disjoint_left.mpr fun i h1 h2 => by
    rw [mem_eSet] at h1 h2
    have := wid_ne h
    omega

omit [FloatOps F] in
theorem oSets_disjoint : ∀ t ∈ (Finset.univ : Finset (Task (F := F))), ∀ t' ∈ (Finset.univ : Finset (Task (F := F))), t ≠ t' →
    Disjoint (oSet (pt t.1 t.2)) (oSet (pt t'.1 t'.2)) := fun t _ t' _ h =>
  Finset.disjoint_left.mpr fun i h1 h2 => by
    rw [mem_oSet] at h1 h2
    have := wid_ne h
    omega

omit [FloatOps F] in
theorem exists_task (n : ℕ) (h : n < 32) : ∃ t : Task (F := F), wid (pt t.1 t.2) = n :=
  ⟨(⟨n % 2, Nat.mod_lt _ (by decide)⟩, ⟨n / 2, by show n / 2 < 16; omega⟩), by rw [wid_pt]; show 2 * (n / 2) + n % 2 = n; omega⟩

omit [FloatOps F] in
theorem eSets_cover : (Finset.univ : Finset (Task (F := F))).biUnion (fun t => eSet (pt t.1 t.2)) = Finset.univ :=
  Finset.eq_univ_of_forall fun i => by
    have hi : (i 0).val < 16384 := (i 0).isLt
    obtain ⟨t, ht⟩ := exists_task (F := F) ((i 0).val / 512) (by omega)
    exact Finset.mem_biUnion.mpr ⟨t, Finset.mem_univ _, by rw [mem_eSet, ht]; omega⟩

omit [FloatOps F] in
theorem oSets_cover : (Finset.univ : Finset (Task (F := F))).biUnion (fun t => oSet (pt t.1 t.2)) = Finset.univ :=
  Finset.eq_univ_of_forall fun i => by
    have hi : (i 0).val < 2097152 := (i 0).isLt
    obtain ⟨t, ht⟩ := exists_task (F := F) ((i 0).val / 65536) (by omega)
    exact Finset.mem_biUnion.mpr ⟨t, Finset.mem_univ _, by rw [mem_oSet, ht]; omega⟩

omit [FloatOps F] in
theorem sPts_split (d : Dev nD) (f : Buf (Elt F) (sLoc d)) :
    (sLoc d ↦{fullShare} f : sProp 𝕄) = bigSep Finset.univ fun t : Task (F := F) => sLoc d ↦[eSet (pt t.1 t.2)]{fullShare} f := by
  rw [← pointsTo_biUnion Finset.univ (ℓ := sLoc d) (fun t : Task (F := F) => eSet (pt t.1 t.2)) eSets_disjoint, eSets_cover]; try rfl
omit [FloatOps F] in
theorem tPts_split (d : Dev nD) (f : Buf (Elt F) (tLoc d)) :
    (tLoc d ↦{fullShare} f : sProp 𝕄) = bigSep Finset.univ fun t : Task (F := F) => tLoc d ↦[eSet (pt t.1 t.2)]{fullShare} f := by
  rw [← pointsTo_biUnion Finset.univ (ℓ := tLoc d) (fun t : Task (F := F) => eSet (pt t.1 t.2)) eSets_disjoint, eSets_cover]; try rfl
omit [FloatOps F] in
theorem oPts_split (d : Dev nD) (f : Buf (Elt F) (oLoc d)) :
    (oLoc d ↦{fullShare} f : sProp 𝕄) = bigSep Finset.univ fun t : Task (F := F) => oLoc d ↦[oSet (pt t.1 t.2)]{fullShare} f := by
  rw [← pointsTo_biUnion Finset.univ (ℓ := oLoc d) (fun t : Task (F := F) => oSet (pt t.1 t.2)) oSets_disjoint, oSets_cover]; try rfl

/-! ## What the handshakes carry -/

/-- The edges' ends every device's call reads. -/
structure Ends (F : FTy → Type) where
  src : (d : Dev nD) → Buf (Elt F) (sLoc d)
  tgt : (d : Dev nD) → Buf (Elt F) (tLoc d)
  src_lt : ∀ d j, (src d j : BitVec 32).toNat < 256
  tgt_lt : ∀ d j, (tgt d j : BitVec 32).toNat < 256

variable (e : Ends F)

/-- Each SparseCore takes the stretches of its tiles, and brings them back with the counts. -/
def P : (K (F := F)).Pay (nD := nD) (Val := Elt F) (Name := ℕ) (U := UU) where
  st := fun q d c => match q with | 0 => bigSep Finset.univ fun i => goP d (pt (F := F) c i) (e.src d) (e.tgt d)
  dn := fun q d c => match q with | 0 => bigSep Finset.univ fun i => tdP d (pt (F := F) c i) (e.src d) (e.tgt d)
  go := fun q d c i => match q with | 0 => goP d (pt (F := F) c i) (e.src d) (e.tgt d)
  td := fun q d c i => match q with | 0 => tdP d (pt (F := F) c i) (e.src d) (e.tgt d)
  x := fun _ _ => iprop(emp)

instance P_storable : (P e).IsStorable where
  st q d c := match q with
    | 0 => (inferInstance : BI.Storable (upEmb : UEmb _ 𝕄) (bigSep Finset.univ fun i => goP d (pt (F := F) c i) (e.src d) (e.tgt d)))
  dn q d c := match q with
    | 0 => (inferInstance : BI.Storable (upEmb : UEmb _ 𝕄) (bigSep Finset.univ fun i => tdP d (pt (F := F) c i) (e.src d) (e.tgt d)))
  go q d c i := match q with
    | 0 => (inferInstance : BI.Storable (upEmb : UEmb _ 𝕄) (goP d (pt (F := F) c i) (e.src d) (e.tgt d)))
  td q d c i := match q with
    | 0 => (inferInstance : BI.Storable (upEmb : UEmb _ 𝕄) (tdP d (pt (F := F) c i) (e.src d) (e.tgt d)))

omit [FloatOps F] in
theorem o_some (d : Dev nD) (f : Buf (Elt F) (oLoc d)) :
    (bigSep Finset.univ fun t : Task (F := F) => oLoc d ↦[oSet (pt t.1 t.2)]{fullShare} f : sProp 𝕄)
      ⊢ bigSep Finset.univ fun t : Task (F := F) => iprop(∃ f, oLoc d ↦[oSet (pt t.1 t.2)]{fullShare} f) :=
  bigSep_mono fun t _ => exists_intro (Φ := fun f => (oLoc d ↦[oSet (pt t.1 t.2)]{fullShare} f : sProp 𝕄)) f

/-- The call's arrays dealt to the tasks. -/
theorem st_intro (d : Dev nD) :
    (iprop((sLoc d ↦{fullShare} e.src d) ∗ (tLoc d ↦{fullShare} e.tgt d) ∗ ∃ f, oLoc d ↦{fullShare} f) : sProp 𝕄)
      ⊢ bigSep Finset.univ fun c : Fin ((K (F := F)).nCore 0) => (P e).st 0 d c := by
  show _ ⊢ bigSep Finset.univ fun c : Fin ((K (F := F)).nCore 0) => bigSep Finset.univ fun i : Fin ((K (F := F)).nSub 0) =>
    (fun t : Task (F := F) => goP d (pt t.1 t.2) (e.src d) (e.tgt d)) (c, i)
  rw [← bigSep_univ_prod (fun t : Task (F := F) => goP d (pt t.1 t.2) (e.src d) (e.tgt d)), bigSep_sep', bigSep_sep', sPts_split, tPts_split]
  iintro ⟨Hs, Ht, %f, Ho⟩
  isplitl [Hs]
  · iexact Hs
  isplitl [Ht]
  · iexact Ht
  ihave Ho := (Entails.of_eq (oPts_split d f)) $$ Ho
  iapply (o_some (F := F) d f); iexact Ho

/-- What the tasks bring back, joined. -/
theorem dn_elim (d : Dev nD) :
    (bigSep Finset.univ fun c : Fin ((K (F := F)).nCore 0) => (P e).dn 0 d c)
      ⊢ (iprop((sLoc d ↦{fullShare} e.src d) ∗ (tLoc d ↦{fullShare} e.tgt d) ∗ oLoc d ↦{fullShare} countsOf (F := F) (e.src d) (e.tgt d)) : sProp 𝕄) := by
  show (bigSep Finset.univ fun c : Fin ((K (F := F)).nCore 0) => bigSep Finset.univ fun i : Fin ((K (F := F)).nSub 0) =>
    (fun t : Task (F := F) => tdP d (pt t.1 t.2) (e.src d) (e.tgt d)) (c, i)) ⊢ _
  rw [← bigSep_univ_prod (fun t : Task (F := F) => tdP d (pt t.1 t.2) (e.src d) (e.tgt d)), bigSep_sep', bigSep_sep', sPts_split, tPts_split, oPts_split]

/-! ## The tasks' obligation -/

theorem defs₀_vector (c : Fin τ.nSC) (s : Fin τ.nSub) :
    defs₀ (F := F) (.scVector c s) 1 ()
      = SparseCore.onTile hcore1 hsub1 (fun c s => cc1__paircount_body (coordsV c s)
          (Memref.whole main_v6_scv) (Memref.isWhole_whole _) (Memref.whole main_v8_scv) (Memref.isWhole_whole _)
          (Memref.whole main_v9_scv) (Memref.isWhole_whole _) (Memref.whole cc1_scratch0) (Memref.isWhole_whole _)
          (Memref.whole cc1_scratch1) (Memref.isWhole_whole _) (Memref.whole cc1_scratch2) (Memref.isWhole_whole _)
          cc1_scoped0 cc1_scoped1 cc1_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 1024 in
theorem tileObl : (K (F := F)).TileObl (D (F := F)) 𝒱 (P e) v₀ 0 := by
  intro d c i O W hO _ _
  simp only [show (P e).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body d (pt c i) facts (e.src d) (e.tgt d) (e.src_lt d) (e.tgt_lt d) O W hO).trans (wp_mono frame _ _ fun _ => obl_post)

theorem vecSplit : (K (F := F)).VecSplit' (P e) 0 := by
  intro d c
  show (bigSep Finset.univ fun i => goP d (pt (F := F) c i) (e.src d) (e.tgt d)) ⊢ |={Set.univ}=> iprop(
      (bigSep Finset.univ fun i : Fin ((K (F := F)).nSub 0) => goP d (pt (F := F) c i) (e.src d) (e.tgt d))
      ∗ ((bigSep Finset.univ fun i : Fin ((K (F := F)).nSub 0) => tdP d (pt (F := F) c i) (e.src d) (e.tgt d))
          -∗ bigSep Finset.univ fun i : Fin ((K (F := F)).nSub 0) => tdP d (pt (F := F) c i) (e.src d) (e.tgt d)))
  iintro H; imodintro
  isplitl [H]; · iexact H
  iintro H; iexact H

/-! ## The launch element of the ghost state -/

/-- The pipelines' prefetch tables are empty. -/
abbrev adm : (p : Fin 3) → (pcfgs (F := F) p).Adm := fun p => (cfgs p).toPCfg_adm
abbrev pins : Fin 3 → Pipeline.Cfg sig Λ₀ := Pipeline.pin (pcfgs (F := F)) adm

def u₀ : UU := (initOf (K (F := F)).hsCells (K (F := F)).hsToks,
  (initOf (Pipeline.cells (pins (F := F)) cellOf_inj) (Pipeline.launchToks (pins (F := F)) cellOf_inj), 1))

/-- The ghost state of the three pipelines' staging cells on device `d`. -/
abbrev tcGhost (d : Dev nD) : sProp 𝕄 :=
  iprop((bigSep Finset.univ fun p : Fin 3 => Pipeline.cellsGhost (pins (F := F)) EP p d)
    ∗ bigSep Finset.univ fun p : Fin 3 => Pipeline.toksInit (pins (F := F)) EP p d)

omit [FloatOps F] in
theorem bigSep_emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => tcGhost (F := F) d)
        ∗ bigSep Finset.univ fun thr : Thread nD τ => bigSep Finset.univ fun q : Fin 1 => (P e).x q thr) := by
  unfold u₀
  iintro Hu
  ihave H := (ownU_pair _ _) $$ Hu
  icases H with ⟨HH, HK⟩
  ihave HK' := (Entails.of_eq (show (BI.own (embR (initOf (Pipeline.cells (pins (F := F)) cellOf_inj) (Pipeline.launchToks (pins (F := F)) cellOf_inj), (1 : Counters))) : sProp 𝕄)
    = BI.own (EP (initOf (Pipeline.cells (pins (F := F)) cellOf_inj) (Pipeline.launchToks (pins (F := F)) cellOf_inj))) from rfl)) $$ HK
  imod (Pipeline.fund_ghost (pins (F := F)) EP cellOf_inj) $$ HK' with ⟨Hg, Ht⟩
  imodintro
  isplitl [HH]; · iexact HH
  isplitl [Hg Ht]
  · unfold tcGhost
    rw [bigSep_sep']
    isplitl [Hg]; · iexact Hg
    iexact Ht
  · show _ ⊢ bigSep Finset.univ fun thr : Thread nD τ => bigSep Finset.univ fun q : Fin 1 => (iprop(emp) : sProp 𝕄)
    rw [show (fun thr : Thread nD τ => bigSep Finset.univ fun q : Fin 1 => (iprop(emp) : sProp 𝕄)) = fun _ => iprop(emp) from
      funext fun _ => bigSep_emps _, bigSep_emps]

end Cert.Proof.K

end
-- ==== Proof.Regions.lean ====
/-
  A TensorCore pallas_call of this program, run from @main of a launch that also has a SparseCore call: it is entered
  from every unscoped buffer held at a valuation, the core owing what the SparseCore call still asks of it, and left
  with the call's arrays at what its proof data say and everything else as it was.
-/
module

public import proofs.«01_k».proof.Proof.Launch
public import Idealize.ShloMosaic.Lib.Pipeline.RegionArraysS
public import Idealize.ShloMosaic.Lib.Pipeline.FrameBody

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose ucRefs arrRef arrRefs afterRegion)
open Idealize.ShloMosaic.TcCoe

variable {F : FTy → Type} [FloatOps F]

local notation "𝕄" => MT nD τ sig (HIx 1) (Elt F) ℕ UU ℕ

/-- The pairs of an own cell and an index that sit at or below level `b` for the TensorCore of `d`. -/
def lowPairs (d : Dev nD) (b : ℕ) : Set (SemLoc sig × HIx 1) := {p | (K (F := F)).lev (T d, p.1) p.2 ≤ b}

/-- What the TensorCore owes before SparseCore call `n`, its recorded waits at or below level `b`. -/
abbrev owing (n b : ℕ) (d : Dev nD) : sProp 𝕄 :=
  iprop(∃ W, ⌜(K (F := F)).WBelow (T d) W b⌝ ∗ owes (T d) ((K (F := F)).Otc d n) W)

/-- Nothing the TensorCore owes is at the index of a kernel's own waits. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  exact absurd this (by show ¬ (_ ≤ 0); omega)

/-- The proof data of the three pipelines. -/
abbrev Dats (F : FTy → Type) [FloatOps F] : Type := (p : Fin 3) → (d : Dev nD) → Dat τ (Elt F) (HIx 1) ℕ UU ℕ (Pipeline.pin (pcfgs (F := F)) adm p) d

/-- The layout facts of the three pipelines. -/
theorem kit : ∀ p : Fin 3, Pipeline.PLaunchFacts (nD := nD) (τ := τ) (pcfgs (F := F)) p
  | 0 => launch0.toP
  | 1 => launch2.toP
  | 2 => launch3.toP

section

variable (pd : Dats F) (p : Fin 3) (n b : ℕ)

/-- What is asked of a pipeline's proof data: the body's runs, and that the body has nothing to do with what the core owes. -/
structure RegionOk (V : Dev nD → Valuation τ sig (Elt F)) : Prop where
  body : ∀ d, BodyObligationLoose (pd p d) (defs₀ (F := F)) 𝒱₀ none Set.univ
  owed : ∀ d t, (pd p d).owed t = (K (F := F)).Otc d n
  recorded : ∀ d t, (pd p d).recorded t = lowPairs (F := F) d b
  share : ∀ d w, (pd p d).q w = fullShare
  inv : ∀ d t, (pd p d).Φ t = Pipeline.scopedRest (pcfgs (F := F) p).spec d
  entry : ∀ d w, (pd p d).A w = V d (Proc.devRef .tc (arrRef (Pipeline.pin (pcfgs (F := F)) adm p).spec w))

variable {pd p n b}

theorem waits_ok {V : Dev nD → Valuation τ sig (Elt F)} (h : RegionOk pd p n b V) (d : Dev nD) :
    (levAts (K (F := F)).L (K (F := F)).lev : sProp 𝕄) ⊢ Pipeline.cellsWaits (Pipeline.pin (pcfgs (F := F)) adm) pd none p d :=
  Pipeline.cellsWaits_of_cut (Pipeline.pin (pcfgs (F := F)) adm) pd none p d 0 ((K (F := F)).Otc d n) (h.owed d)
    (fun _ _ => Finset.mem_univ _) (fun _ _ => Nat.le_refl _)
    (fun g i hg => ⟨Finset.mem_univ _, by
      have := SparseCore.Cfg.lev_of_Otc_pos (K := K (F := F)) hg; omega⟩)

/-- Every unscoped buffer of the TensorCore holds what the valuation says. -/
abbrev heldAt (V : Dev nD → Valuation τ sig (Elt F)) (d : Dev nD) : sProp 𝕄 := StableHlo.held (T d) (ucRefs τ sig) (V d)

variable (pd p n b)

/-- The pipeline's arrays are among the unscoped buffers. -/
theorem arrs_uc : arrRefs (τ := τ) (pcfgs (F := F) p).spec ⊆ ucRefs τ sig :=
  Pipeline.arrRefs_sub_ucRefs _ (kit (F := F) p).win.arr_unscoped

set_option backward.isDefEq.respectTransparency.types false in
/-- The pipeline's region over every unscoped buffer. -/
def region (V : Dev nD → Valuation τ sig (Elt F)) (h : RegionOk pd p n b V) :
    Pipeline.RegionSeg (pcfgs (F := F)) adm pd none defs₀ 𝒱₀ (K (F := F)).L (K (F := F)).lev p where
  win := (kit (F := F) p).win.to₀
  block_pos := (kit (F := F) p).block_pos
  stage_whole := (kit (F := F) p).stage_whole
  K := PEmpty
  osem k := k.elim
  ho := Pipeline.OwnSemFacts.none _
  hbody := h.body
  hwaits := waits_ok h
  pre d := iprop(heldAt V d ∗ owing n b d)
  post d := iprop(heldAt (fun d => afterRegion (pd p d) (V d)) d ∗ owing n b d)
  X _ := BI.emp
  Y _ := BI.emp
  Z d := StableHlo.held (T d) (ucRefs τ sig \ arrRefs (pcfgs (F := F) p).spec) (V d)
  hentry d := by
    rw [Pipeline.ownSems0_none, Pipeline.prefHeld_of_none _ (by fin_cases p <;> rfl)]
    have ha := Pipeline.arrays_held (pcfgs (F := F)) adm pd p (kit p) d ((pd p d).share_full (h.share d)) ((pd p d).arrAt · 0) (V d) (h.entry d)
    have hs := StableHlo.held_sub_split (Ix := HIx 1) (Name := ℕ) (U := UU) (Lvl := ℕ) (T d) (arrs_uc (F := F) p) (V d)
    iintro ⟨⟨Hb, ⟨%W, %hW, HO⟩⟩, -, -⟩
    ihave Hb := (Entails.of_eq hs) $$ Hb
    icases Hb with ⟨Ha, Hrest⟩
    ihave Ha := (Entails.of_eq ha.symm) $$ Ha
    imodintro
    isplitl [Ha]; · iexact Ha
    isplitr; · iempintro
    isplitl [HO]
    · unfold Pipeline.Dat.owesAt Pipeline.owesWithin Pipeline.Dat.bound
      rw [h.owed d 0, h.recorded d 0]
      iexists W; isplitr; · ipureintro; exact fun x hx => Or.inl (hW x hx)
      iexact HO
    isplitr; · iempintro
    iexact Hrest
  hin d := by
    rw [h.inv]
    iintro ⟨-, -, Hr⟩; iexact Hr
  hout d := by
    rw [Pipeline.ownSems0_none, h.inv]
    iintro Hr
    isplitr; · iempintro
    isplitr; · iempintro
    iexact Hr
  hexit d := by
    have ha := Pipeline.arrays_held (pcfgs (F := F)) adm pd p (kit p) d ((pd p d).share_full (h.share d))
      ((pd p d).arrAt · (Pipeline.pin (pcfgs (F := F)) adm p).N) (afterRegion (pd p d) (V d))
      (fun w => (Pipeline.afterRegion_arr (pd p d) (V d) (kit (F := F) p).win.arr_inj w).symm)
    have hs := StableHlo.held_sub_split (Ix := HIx 1) (Name := ℕ) (U := UU) (Lvl := ℕ) (T d) (arrs_uc (F := F) p) (afterRegion (pd p d) (V d))
    have hc := StableHlo.held_congr (Ix := HIx 1) (Name := ℕ) (U := UU) (Lvl := ℕ) (T d)
      (S := ucRefs τ sig \ arrRefs (pcfgs (F := F) p).spec) (V := afterRegion (pd p d) (V d)) (V' := V d) (Pipeline.afterRegion_off (pd p d) (V d) _)
    iintro ⟨Ha, HO, -, Hrest⟩
    imodintro
    isplitl [Ha Hrest]
    · iapply (Entails.of_eq hs.symm)
      isplitl [Ha]
      · iapply (Entails.of_eq ha); iexact Ha
      · iapply (Entails.of_eq hc.symm); iexact Hrest
    unfold Pipeline.Dat.owesAt Pipeline.owesWithin Pipeline.Dat.bound
    rw [h.owed d (Fin.last _), h.recorded d (Fin.last _)]
    icases HO with ⟨%W, %hW, HO⟩; iexists W
    isplitr
    · ipureintro
      intro x hx
      rcases hW hx with hx | ⟨w, s, rfl⟩
      · exact hx
      · exact Nat.zero_le _
    iexact HO

variable {pd p n b}

theorem cells_inj : Function.Injective (Pipeline.cellOf (nD := nD) (τ := τ) (pins (F := F))) := cellOf_inj

set_option backward.isDefEq.respectTransparency.types false in
/-- The call's line of @main: from the buffers at `V` to the buffers after the region, the core owing the same. -/
theorem wp_region {V : Dev nD → Valuation τ sig (Elt F)} (h : RegionOk pd p n b V) [∀ e, Nonempty (Elt F e)] (d : Dev nD) (Q : PUnit → sProp 𝕄) :
    iprop((iprop(boundary (T d) ∗ heldAt (fun d => afterRegion (pd p d) (V d)) d ∗ owing n b d) -∗ Q ⟨⟩)
        ∗ boundary (T d) ∗ (heldAt V d ∗ owing n b d) ∗ levAts (K (F := F)).L (K (F := F)).lev
        ∗ Pipeline.cellsGhost (pins (F := F)) EP p d ∗ Pipeline.toksInit (pins (F := F)) EP p d)
      ⊢ wp frame (wpE ((K (F := F)).defs D) 𝒱 (T d) none) Set.univ
          (Prog.lift (.customCall (SparseCore.inner (Pipeline.entry p)) ())) Q := by
  rw [show (Prog.lift (.customCall (SparseCore.inner (Pipeline.entry p)) ()) : Prog (TpuEff nD τ sig (Elt F) (SparseCore.Sig (ΛP (F := F)) 1) .tc) PUnit)
      = SparseCore.liftProg (.op (.customCall (Pipeline.entry p) ()) fun _ => .ret ⟨⟩) from rfl]
  refine BIBase.Entails.trans ?_ ((K (F := F)).wp_liftProg D 𝒱 (T d) Set.univ none _ Q)
  have hw := Pipeline.RegionSeg.wp (pcfgs (F := F)) adm pd none (cells_inj (F := F)) EP defs₀ 𝒱₀ (K (F := F)).L (K (F := F)).lev
    (region pd p n b V h) d none (fun _ hu => nomatch hu) (fun _ => .ret ⟨⟩) Q
  rw [show (region pd p n b V h).pre d = iprop(heldAt V d ∗ owing n b d) from rfl,
    show (region pd p n b V h).post d = iprop(heldAt (fun d => afterRegion (pd p d) (V d)) d ∗ owing n b d) from rfl] at hw
  refine BIBase.Entails.trans ?_ hw
  iintro ⟨Hk, Hb, Hpre, Hlev, Hg, Ht⟩
  isplitl [Hk]
  · iintro ⟨Hb, Hpost⟩
    iapply (Entails.of_eq (wp_ret _ _ _ _ _).symm)
    imodintro
    iapply Hk
    isplitl [Hb]; · iexact Hb
    iexact Hpost
  isplitl [Hb]; · iexact Hb
  isplitl [Hpre]; · iexact Hpre
  isplitl [Hlev]; · iexact Hlev
  isplitl [Hg]; · iexact Hg
  iexact Ht

end

end Cert.Proof.K

end
-- ==== Proof.Region0.lean ====
/-
  The encoders' pallas_call: one grid point over whole arrays. What its body leaves in the two embeddings' blocks, as
  the kernel's own arithmetic on the ten inputs, and the proof data of its pipeline.
-/
module

public import proofs.«01_k».proof.Proof.Regions
public import proofs.«01_k».proof.Proof.Gen.KernelIdeal.Points
public import Idealize.ShloMosaic.Lib.VecWindow

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation BodyObligationLoose ucRefs arrRef arrRefs afterRegion)
open Idealize.ShloMosaic.TcCoe

variable {F : FTy → Type} [FloatOps F]

local notation "𝕄" => MT nD τ sig (HIx 1) (Elt F) ℕ UU ℕ

/-- Memref `M` of the TensorCore of `c` held whole, reading `x`. -/
abbrev holds (c : Dev nD) {sp : Space} {s : Shape} {e : EltTy} (M : Memref sig .tc sp s e) (x : Vec F s e) : sProp 𝕄 :=
  owns (c : Thread nD τ) M fullShare x

/-- The drugs' encoder: two dense layers with their rectifiers. -/
abbrev drugEnc (x0 : Vec F S512x1024 .f32) (x1 : Vec F S1024x256 .f32) (x2 : Vec F S1x256 .f32) (x3 : Vec F S256x256 .f32)
    (x4 : Vec F S1x256 .f32) : Vec F S512x256 .f32 := k0_pay2 x0 x1 x2 x3 x4

/-- The targets' encoder: two dense layers with their rectifiers. -/
abbrev targetEnc (x5 : Vec F S256x512 .f32) (x6 : Vec F S512x256 .f32) (x7 : Vec F S1x256 .f32) (x8 : Vec F S256x256 .f32)
    (x9 : Vec F S1x256 .f32) : Vec F S256x256 .f32 := k0_pay1 (k0_pay3 x5 x6 x7 x8) x9

set_option maxHeartbeats 1000000 in
/-- The encoders' body from its ten inputs. -/
theorem encoders_run (c : Dev nD) (a0 : Memref sig .tc .vmem S512x1024 .f32) (h0 : a0.IsWhole) (a1 : Memref sig .tc .vmem S1024x256 .f32) (h1 : a1.IsWhole)
    (a2 : Memref sig .tc .vmem S1x256 .f32) (h2 : a2.IsWhole) (a3 : Memref sig .tc .vmem S256x256 .f32) (h3 : a3.IsWhole)
    (a4 : Memref sig .tc .vmem S1x256 .f32) (h4 : a4.IsWhole) (a5 : Memref sig .tc .vmem S256x512 .f32) (h5 : a5.IsWhole)
    (a6 : Memref sig .tc .vmem S512x256 .f32) (h6 : a6.IsWhole) (a7 : Memref sig .tc .vmem S1x256 .f32) (h7 : a7.IsWhole)
    (a8 : Memref sig .tc .vmem S256x256 .f32) (h8 : a8.IsWhole) (a9 : Memref sig .tc .vmem S1x256 .f32) (h9 : a9.IsWhole)
    (a10 : Memref sig .tc .vmem S512x256 .f32) (h10 : a10.IsWhole) (a11 : Memref sig .tc .vmem S256x256 .f32) (h11 : a11.IsWhole)
    (x0 : Vec F S512x1024 .f32) (x1 : Vec F S1024x256 .f32) (x2 : Vec F S1x256 .f32) (x3 : Vec F S256x256 .f32) (x4 : Vec F S1x256 .f32)
    (x5 : Vec F S256x512 .f32) (x6 : Vec F S512x256 .f32) (x7 : Vec F S1x256 .f32) (x8 : Vec F S256x256 .f32) (x9 : Vec F S1x256 .f32)
    (Q : PUnit → sProp 𝕄) :
    iprop(holds c a0 x0 ∗ holds c a1 x1 ∗ holds c a2 x2 ∗ holds c a3 x3 ∗ holds c a4 x4 ∗ holds c a5 x5 ∗ holds c a6 x6 ∗ holds c a7 x7
        ∗ holds c a8 x8 ∗ holds c a9 x9 ∗ (∃ x, holds c a10 x) ∗ (∃ x, holds c a11 x)
        ∗ (iprop(holds c a0 x0 ∗ holds c a1 x1 ∗ holds c a2 x2 ∗ holds c a3 x3 ∗ holds c a4 x4 ∗ holds c a5 x5 ∗ holds c a6 x6 ∗ holds c a7 x7
            ∗ holds c a8 x8 ∗ holds c a9 x9 ∗ holds c a10 (drugEnc x0 x1 x2 x3 x4) ∗ holds c a11 (targetEnc x5 x6 x7 x8 x9)) -∗ Q ⟨⟩))
      ⊢ wp frame (wpE (defs₀ (F := F)) Variants.none (c : Thread nD τ) none) Set.univ
          (cc0__encoders_body a0 h0 a1 h1 a2 h2 a3 h3 a4 h4 a5 h5 a6 h6 a7 h7 a8 h8 a9 h9 a10 h10 a11 h11) Q := by
  simp only [cc0__encoders_body_eq_skeleton]; unfold cc0__encoders_body_skel
  simp only [k0_part1_eq_skeleton]
  unfold holds owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%f8, %e8, H8⟩, ⟨%f9, %e9, H9⟩, ⟨%d10, %f10, -, H10⟩, ⟨%d11, %f11, -, H11⟩, Hk⟩
  subst e0 e1 e2 e3 e4 e5 e6 e7 e8 e9
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]; · iexists f7; isplitr; (· ipureintro; rfl); iexact H7
  isplitl [H8]; · iexists f8; isplitr; (· ipureintro; rfl); iexact H8
  isplitl [H9]; · iexists f9; isplitr; (· ipureintro; rfl); iexact H9
  isplitl [H10]
  · iexists _; isplitr; swap; (· iexact H10); ipureintro
    refine (View.read_writes_full _ _ _ _ _).trans ?_
    show k0_pay2 _ _ _ _ _ = k0_pay2 _ _ _ _ _
    congr 1 <;> exact View.readAt_full _ _ _
  · iexists _; isplitr; swap; (· iexact H11); ipureintro
    refine (View.read_writes_full _ _ _ _ _).trans (congrArg₂ k0_pay1 (show k0_pay3 _ _ _ _ = k0_pay3 _ _ _ _ from ?_) (View.readAt_full _ _ _))
    congr 1 <;> exact View.readAt_full _ _ _

/-- The drugs' block at every window of the encoders' pipeline: what the fetch stages of the array. -/
abbrev encBlk (V : Dev nD → Valuation τ sig (Elt F)) (d : Dev nD) (w : Fin cfg0.W) : ((cfg0.win w).xblock (cfg0.grid.coords t0_0)).Idx → Elt F (cfg0.win w).elt :=
  ((cfg0.win w).blk t0_0).view.read (Elt F) (V d (Proc.devRef .tc (arrRef spec0 w)))

/-- The encoders' proof data from the buffers at `V`, the core owing what SparseCore call `n` asks. -/
def encDat (n b : ℕ) (V : Dev nD → Valuation τ sig (Elt F)) (d : Dev nD) : Dat τ (Elt F) (HIx 1) ℕ UU ℕ cfg0 d where
  A w := V d (Proc.devRef .tc (arrRef spec0 w))
  after w _ := match w with
    | ⟨0, _⟩ => encBlk V d 0
    | ⟨1, _⟩ => encBlk V d 1
    | ⟨2, _⟩ => encBlk V d 2
    | ⟨3, _⟩ => encBlk V d 3
    | ⟨4, _⟩ => encBlk V d 4
    | ⟨5, _⟩ => encBlk V d 5
    | ⟨6, _⟩ => encBlk V d 6
    | ⟨7, _⟩ => encBlk V d 7
    | ⟨8, _⟩ => encBlk V d 8
    | ⟨9, _⟩ => encBlk V d 9
    | ⟨10, _⟩ => drugEnc (encBlk V d 0) (encBlk V d 1) (encBlk V d 2) (encBlk V d 3) (encBlk V d 4)
    | ⟨11, _⟩ => targetEnc (encBlk V d 5) (encBlk V d 6) (encBlk V d 7) (encBlk V d 8) (encBlk V d 9)
  Φ _ := Pipeline.scopedRest spec0 d
  q _ := fullShare
  owed _ := (K (F := F)).Otc d n
  recorded _ := lowPairs (F := F) d b

theorem enc_body (n b : ℕ) (V : Dev nD → Valuation τ sig (Elt F)) (d : Dev nD) :
    BodyObligation (encDat n b V d) (defs₀ (F := F)) 𝒱₀ none Set.univ := fun t => by
  obtain rfl := fin_N0 t
  rw [bigSep_W0, bigSep_W0]
  rw [show (encDat n b V d).Φ t0_0.castSucc = Pipeline.scopedRest spec0 d from rfl, show (encDat n b V d).Φ t0_0.succ = Pipeline.scopedRest spec0 d from rfl,
    show (encDat n b V d).owesAt none t0_0.succ = (encDat n b V d).owesAt none t0_0.castSucc from rfl]
  have b0 : ∀ x, (encDat n b V d).before 0 t0_0 x = encBlk V d 0 := fun x => by unfold Dat.before; rw [if_pos (fetch0_0 _)]; rfl
  have b1 : ∀ x, (encDat n b V d).before 1 t0_0 x = encBlk V d 1 := fun x => by unfold Dat.before; rw [if_pos (fetch0_1 _)]; rfl
  have b2 : ∀ x, (encDat n b V d).before 2 t0_0 x = encBlk V d 2 := fun x => by unfold Dat.before; rw [if_pos (fetch0_2 _)]; rfl
  have b3 : ∀ x, (encDat n b V d).before 3 t0_0 x = encBlk V d 3 := fun x => by unfold Dat.before; rw [if_pos (fetch0_3 _)]; rfl
  have b4 : ∀ x, (encDat n b V d).before 4 t0_0 x = encBlk V d 4 := fun x => by unfold Dat.before; rw [if_pos (fetch0_4 _)]; rfl
  have b5 : ∀ x, (encDat n b V d).before 5 t0_0 x = encBlk V d 5 := fun x => by unfold Dat.before; rw [if_pos (fetch0_5 _)]; rfl
  have b6 : ∀ x, (encDat n b V d).before 6 t0_0 x = encBlk V d 6 := fun x => by unfold Dat.before; rw [if_pos (fetch0_6 _)]; rfl
  have b7 : ∀ x, (encDat n b V d).before 7 t0_0 x = encBlk V d 7 := fun x => by unfold Dat.before; rw [if_pos (fetch0_7 _)]; rfl
  have b8 : ∀ x, (encDat n b V d).before 8 t0_0 x = encBlk V d 8 := fun x => by unfold Dat.before; rw [if_pos (fetch0_8 _)]; rfl
  have b9 : ∀ x, (encDat n b V d).before 9 t0_0 x = encBlk V d 9 := fun x => by unfold Dat.before; rw [if_pos (fetch0_9 _)]; rfl
  simp only [b0, b1, b2, b3, b4, b5, b6, b7, b8, b9]
  iintro ⟨HΦ, Howes, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩, ⟨%_, H10⟩, ⟨%_, H11⟩⟩
  iapply (encoders_run d _ _ _ _ _ _ _ _ _ _ _ _ _ _ _ _ _ _ _ _ _ _ _ _
    (encBlk V d 0) (encBlk V d 1) (encBlk V d 2) (encBlk V d 3) (encBlk V d 4) (encBlk V d 5) (encBlk V d 6) (encBlk V d 7) (encBlk V d 8) (encBlk V d 9) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.Proof.K

end
-- ==== Proof.Layers.lean ====
/-
  What the message call computes, as functions of the vectors it reads: the table of edge counts summed from the 32
  parts, one layer's bands of 32 drugs, the layer, the three layers, and that the kernel's own pieces compose to these.
-/
module

public import proofs.«01_k».proof.Proof.Regions
public import proofs.«01_k».proof.Proof.Gen.KernelIdeal.Points
public import Idealize.ShloMosaic.Lib.VecWindow

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation BodyObligationLoose ucRefs arrRef arrRefs afterRegion)
open Idealize.ShloMosaic.TcCoe

variable {F : FTy → Type} [FloatOps F]

local notation "𝕄" => MT nD τ sig (HIx 1) (Elt F) ℕ UU ℕ

/-- The part of the counts that starts at `o`. -/
abbrev cut (x : Vec F S2097152 .f32) (o : ℕ) (h : ∀ a, (![o] : Fin 1 → ℕ) a + S65536.size a ≤ S2097152.size a) : Vec F S65536 .f32 :=
  View.ld x (Rect.unit (s := S2097152) ![o] S65536.size h)

/-- The first fifteen parts summed. -/
abbrev sum15 (x : Vec F S2097152 .f32) : FVec F S65536 .f32 :=
  k2_pay1 (cut x 0 inb_S2097152_S65536_0) (cut x 65536 inb_S2097152_S65536_65536) (cut x 131072 inb_S2097152_S65536_131072) (cut x 196608 inb_S2097152_S65536_196608) (cut x 262144 inb_S2097152_S65536_262144) (cut x 327680 inb_S2097152_S65536_327680) (cut x 393216 inb_S2097152_S65536_393216) (cut x 458752 inb_S2097152_S65536_458752)
    (cut x 524288 inb_S2097152_S65536_524288) (cut x 589824 inb_S2097152_S65536_589824) (cut x 655360 inb_S2097152_S65536_655360) (cut x 720896 inb_S2097152_S65536_720896) (cut x 786432 inb_S2097152_S65536_786432) (cut x 851968 inb_S2097152_S65536_851968) (cut x 917504 inb_S2097152_S65536_917504)

/-- The first thirty parts summed. -/
abbrev sum30 (x : Vec F S2097152 .f32) : FVec F S65536 .f32 :=
  k2_pay2 (sum15 x) (cut x 983040 inb_S2097152_S65536_983040) (cut x 1048576 inb_S2097152_S65536_1048576) (cut x 1114112 inb_S2097152_S65536_1114112) (cut x 1179648 inb_S2097152_S65536_1179648) (cut x 1245184 inb_S2097152_S65536_1245184) (cut x 1310720 inb_S2097152_S65536_1310720) (cut x 1376256 inb_S2097152_S65536_1376256)
    (cut x 1441792 inb_S2097152_S65536_1441792) (cut x 1507328 inb_S2097152_S65536_1507328) (cut x 1572864 inb_S2097152_S65536_1572864) (cut x 1638400 inb_S2097152_S65536_1638400) (cut x 1703936 inb_S2097152_S65536_1703936) (cut x 1769472 inb_S2097152_S65536_1769472) (cut x 1835008 inb_S2097152_S65536_1835008) (cut x 1900544 inb_S2097152_S65536_1900544)

/-- The table of counts: all 32 parts summed, by source and destination. -/
abbrev table (x : Vec F S2097152 .f32) : FVec F S256x256 .f32 :=
  k2_pay3 (sum30 x) (cut x 1966080 inb_S2097152_S65536_1966080) (cut x 2031616 inb_S2097152_S65536_2031616)

/-- Each source's number of edges, at least one. -/
abbrev degree (x : Vec F S2097152 .f32) : FVec F S256x1 .f32 :=
  k2_pay4 (sum30 x) (cut x 1966080 inb_S2097152_S65536_1966080) (cut x 2031616 inb_S2097152_S65536_2031616)

/-- The table in the narrow format. -/
abbrev tableB (x : Vec F S2097152 .f32) : FVec F S256x256 .bf16 :=
  k2_pay6 (sum30 x) (cut x 1966080 inb_S2097152_S65536_1966080) (cut x 2031616 inb_S2097152_S65536_2031616)

/-- The drugs' share of a layer's product, in the narrow format. -/
def drugPart (d mWa : FVec F S256x256 .f32) : FVec F S256x256 .bf16 :=
  truncf .bf16 (matmul dot_S256x256_S256x256_S256x256_1_0_0_1_n_n none d (shapeCast S256x256 mWa shapeCasts_S256x256_S256x256)
    (constant S256x256 .f32 0x00000000#32)) bitsLt_bf16_f32

/-- The targets' share of a layer's product with its bias, in the narrow format. -/
abbrev targetPart (te mWb : Vec F S256x256 .f32) (mb : Vec F S1x256 .f32) : FVec F S256x256 .bf16 := k2_pay8 te mWb mb

/-- 32 drugs' updates, from drug `o` on: the rectified sums over the targets, each by its count. -/
def band (o : ℕ) (h : S256x256.Slices ![o, 0] S32x256) (cb dp tp : FVec F S256x256 .bf16) : FVec F S32x256 .f32 :=
  multiReduction .add [1] S32x256 (extf .f32 (mulf (maximumf
      (addf (broadcastTo S32x256x256 (shapeCast S32x1x256 (extractStridedSlice S32x256 ![o, 0] dp h) shapeCasts_S32x256_S32x1x256) broadcasts_S32x1x256_S32x256x256)
        (broadcastTo S32x256x256 (shapeCast S1x256x256 tp shapeCasts_S256x256_S1x256x256) broadcasts_S1x256x256_S32x256x256))
      (broadcast S32x256x256 (Scalar.ofBits .bf16 0x0000#16)))
    (broadcastTo S32x256x256 (shapeCast S32x256x1 (extractStridedSlice S32x256 ![o, 0] cb h) shapeCasts_S32x256_S32x256x1) broadcasts_S32x256x1_S32x256x256)) bitsLt_bf16_f32)
    0x00000000#32 reduces_S32x256x256_S32x256 (.inl rfl) rfl

/-- One layer: each drug's embedding with its updates' mean added. -/
def layer (n : FVec F S256x1 .f32) (cb : FVec F S256x256 .bf16) (d : FVec F S256x256 .f32) (dp tp : FVec F S256x256 .bf16) : FVec F S256x256 .f32 :=
  addf d (divf (concatenate S256x256 0
    [⟨S32x256, band 0 slices_S256x256_o0_0_S32x256 cb dp tp⟩, ⟨S32x256, band 32 slices_S256x256_o32_0_S32x256 cb dp tp⟩, ⟨S32x256, band 64 slices_S256x256_o64_0_S32x256 cb dp tp⟩, ⟨S32x256, band 96 slices_S256x256_o96_0_S32x256 cb dp tp⟩, ⟨S32x256, band 128 slices_S256x256_o128_0_S32x256 cb dp tp⟩, ⟨S32x256, band 160 slices_S256x256_o160_0_S32x256 cb dp tp⟩, ⟨S32x256, band 192 slices_S256x256_o192_0_S32x256 cb dp tp⟩, ⟨S32x256, band 224 slices_S256x256_o224_0_S32x256 cb dp tp⟩]
    concatenates_S32x256_S32x256_S32x256_S32x256_S32x256_S32x256_S32x256_S32x256_S256x256_d0) (broadcastTo S256x256 n broadcasts_S256x1_S256x256))

/-- The first 256 drugs after the three layers. -/
def threeLayers (x : Vec F S2097152 .f32) (d0 te a0 b0 : Vec F S256x256 .f32) (c0 : Vec F S1x256 .f32) (a1 b1 : Vec F S256x256 .f32)
    (c1 : Vec F S1x256 .f32) (a2 b2 : Vec F S256x256 .f32) (c2 : Vec F S1x256 .f32) : FVec F S256x256 .f32 :=
  have d := k2_pay5 d0
  have d1 := layer (degree x) (tableB x) d (drugPart d a0) (targetPart te b0 c0)
  have d2 := layer (degree x) (tableB x) d1 (drugPart d1 a1) (targetPart te b1 c1)
  layer (degree x) (tableB x) d2 (drugPart d2 a2) (targetPart te b2 c2)

section

variable (v88 : FVec F S65536 .f32) (v89 v92 : Vec F S65536 .f32)

/-- The kernel's pieces of the first layer. -/
theorem layer_one (v100 v103 v107 v109 : Vec F S256x256 .f32) (v112 : Vec F S1x256 .f32) :
    k2_pay15 (k2_pay4 v88 v89 v92) (k2_pay5 v100) (k2_pay6 v88 v89 v92) (k2_pay7 v100 v103) (k2_pay8 v107 v109 v112)
        (k2_pay9 v88 v89 v92 v100 v103 v107 v109 v112)
        (k2_pay11 (k2_pay6 v88 v89 v92) (k2_pay8 v107 v109 v112) (k2_pay10 v100 v103))
        (k2_pay12 (k2_pay6 v88 v89 v92) (k2_pay7 v100 v103) (k2_pay8 v107 v109 v112))
        (k2_pay13 (k2_pay6 v88 v89 v92) (k2_pay7 v100 v103) (k2_pay8 v107 v109 v112))
        (k2_pay14 (k2_pay6 v88 v89 v92) (k2_pay7 v100 v103) (k2_pay8 v107 v109 v112))
      = layer (k2_pay4 v88 v89 v92) (k2_pay6 v88 v89 v92) (k2_pay5 v100) (drugPart (k2_pay5 v100) v103) (targetPart v107 v109 v112) := rfl

variable (n : FVec F S256x1 .f32) (cb : FVec F S256x256 .bf16) (d : FVec F S256x256 .f32)

/-- The kernel's pieces of the second layer. -/
theorem layer_two (w te b : Vec F S256x256 .f32) (c : Vec F S1x256 .f32) :
    k2_pay28 n cb d (k2_pay17 d (k2_pay16 w) (constant S256x256 .f32 0x00000000#32)) (k2_pay18 te b c)
        (k2_pay19 cb d (k2_pay16 w) (constant S256x256 .f32 0x00000000#32) te b c)
        (k2_pay20 cb d (k2_pay16 w) (constant S256x256 .f32 0x00000000#32) te b c)
        (k2_pay22 cb (k2_pay21 d (k2_pay16 w) (constant S256x256 .f32 0x00000000#32) te b c))
        (k2_pay23 cb (k2_pay17 d (k2_pay16 w) (constant S256x256 .f32 0x00000000#32)) (k2_pay18 te b c))
        (k2_pay24 cb (k2_pay17 d (k2_pay16 w) (constant S256x256 .f32 0x00000000#32)) (k2_pay18 te b c))
        (k2_pay25 cb (k2_pay17 d (k2_pay16 w) (constant S256x256 .f32 0x00000000#32)) (k2_pay18 te b c))
        (k2_pay26 (k2_pay17 d (k2_pay16 w) (constant S256x256 .f32 0x00000000#32))) (k2_pay27 (k2_pay18 te b c))
      = layer n cb d (drugPart d w) (targetPart te b c) := rfl

end

end Cert.Proof.K

end
-- ==== Proof.Region2.lean ====
/-
  The message pallas_call: one grid point over whole arrays. What its body leaves in the drugs' new embeddings, in
  their share of the predictor's first product and in the targets' share, and the proof data of its pipeline.
-/
module

public import proofs.«01_k».proof.Proof.Region0
public import proofs.«01_k».proof.Proof.Layers
public import proofs.«01_k».proof.Proof.Gen.KernelIdeal.Points
public import Idealize.ShloMosaic.Lib.VecWindow

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation BodyObligationLoose ucRefs arrRef arrRefs afterRegion)
open Idealize.ShloMosaic.TcCoe

variable {F : FTy → Type} [FloatOps F]

local notation "𝕄" => MT nD τ sig (HIx 1) (Elt F) ℕ UU ℕ

/-- The drugs' new embeddings: the first 256 rows after the layers, the others as they were. -/
def newDrugs (top bot : Vec F S256x256 .f32) : Vec F S512x256 .f32 :=
  View.canon [⟨Rect.unit (s := S512x256) ![256, 0] S256x256.size inb_S512x256_S256x256_256_0, bot⟩,
    ⟨Rect.unit (s := S512x256) ![0, 0] S256x256.size inb_S512x256_S256x256_0_0, top⟩]

/-- The rows of the drugs' embeddings from 0 on. -/
abbrev topRows (x : Vec F S512x256 .f32) : Vec F S256x256 .f32 := View.ld x (Rect.unit (s := S512x256) ![0, 0] S256x256.size inb_S512x256_S256x256_0_0)

/-- The rows of the drugs' embeddings from 256 on. -/
abbrev botRows (x : Vec F S512x256 .f32) : Vec F S256x256 .f32 := View.ld x (Rect.unit (s := S512x256) ![256, 0] S256x256.size inb_S512x256_S256x256_256_0)

/-- The message call's first result. -/
abbrev msgDrugs (x0 : Vec F S512x256 .f32) (x1 : Vec F S256x256 .f32) (x2 : Vec F S2097152 .f32) (x3 x4 : Vec F S256x256 .f32) (x5 : Vec F S1x256 .f32)
    (x6 x7 : Vec F S256x256 .f32) (x8 : Vec F S1x256 .f32) (x9 x10 : Vec F S256x256 .f32) (x11 : Vec F S1x256 .f32) : Vec F S512x256 .f32 :=
  newDrugs (threeLayers x2 (topRows x0) x1 x3 x4 x5 x6 x7 x8 x9 x10 x11) (k2_pay43 (botRows x0))

/-- A load of a whole vector is the vector. -/
theorem ld_whole {s : Shape} {e : EltTy} (X : Vec F s e) (off : Fin s.rank → ℕ) (inb : ∀ a, off a + s.size a ≤ s.size a) :
    View.ld X (Rect.unit off s.size inb) = X :=
  funext fun z => congrArg X (Rect.emb_unit_full inb z)

set_option maxHeartbeats 4000000 in
/-- The message call's body from its fifteen inputs. -/
theorem message_run (c : Dev nD) (a0 : Memref sig .tc .vmem S512x256 .f32) (h0 : a0.IsWhole) (a1 : Memref sig .tc .vmem S256x256 .f32) (h1 : a1.IsWhole) (a2 : Memref sig .tc .vmem S2097152 .f32) (h2 : a2.IsWhole)
    (a3 : Memref sig .tc .vmem S256x256 .f32) (h3 : a3.IsWhole) (a4 : Memref sig .tc .vmem S256x256 .f32) (h4 : a4.IsWhole) (a5 : Memref sig .tc .vmem S1x256 .f32) (h5 : a5.IsWhole)
    (a6 : Memref sig .tc .vmem S256x256 .f32) (h6 : a6.IsWhole) (a7 : Memref sig .tc .vmem S256x256 .f32) (h7 : a7.IsWhole) (a8 : Memref sig .tc .vmem S1x256 .f32) (h8 : a8.IsWhole)
    (a9 : Memref sig .tc .vmem S256x256 .f32) (h9 : a9.IsWhole) (a10 : Memref sig .tc .vmem S256x256 .f32) (h10 : a10.IsWhole) (a11 : Memref sig .tc .vmem S1x256 .f32) (h11 : a11.IsWhole)
    (a12 : Memref sig .tc .vmem S256x256 .f32) (h12 : a12.IsWhole) (a13 : Memref sig .tc .vmem S256x256 .f32) (h13 : a13.IsWhole) (a14 : Memref sig .tc .vmem S1x256 .f32) (h14 : a14.IsWhole)
    (a15 : Memref sig .tc .vmem S512x256 .f32) (h15 : a15.IsWhole) (a16 : Memref sig .tc .vmem S512x256 .f32) (h16 : a16.IsWhole) (a17 : Memref sig .tc .vmem S256x256 .f32) (h17 : a17.IsWhole)
    (x0 : Vec F S512x256 .f32) (x1 : Vec F S256x256 .f32) (x2 : Vec F S2097152 .f32) (x3 : Vec F S256x256 .f32) (x4 : Vec F S256x256 .f32)
    (x5 : Vec F S1x256 .f32) (x6 : Vec F S256x256 .f32) (x7 : Vec F S256x256 .f32) (x8 : Vec F S1x256 .f32) (x9 : Vec F S256x256 .f32)
    (x10 : Vec F S256x256 .f32) (x11 : Vec F S1x256 .f32) (x12 : Vec F S256x256 .f32) (x13 : Vec F S256x256 .f32) (x14 : Vec F S1x256 .f32)
    (Q : PUnit → sProp 𝕄) :
    iprop(holds c a0 x0 ∗ holds c a1 x1 ∗ holds c a2 x2 ∗ holds c a3 x3 ∗ holds c a4 x4 ∗ holds c a5 x5 ∗ holds c a6 x6 ∗ holds c a7 x7 ∗ holds c a8 x8 ∗ holds c a9 x9 ∗ holds c a10 x10 ∗ holds c a11 x11 ∗ holds c a12 x12 ∗ holds c a13 x13 ∗ holds c a14 x14
        ∗ (∃ x, holds c a15 x) ∗ (∃ x, holds c a16 x) ∗ (∃ x, holds c a17 x)
        ∗ (iprop(holds c a0 x0 ∗ holds c a1 x1 ∗ holds c a2 x2 ∗ holds c a3 x3 ∗ holds c a4 x4 ∗ holds c a5 x5 ∗ holds c a6 x6 ∗ holds c a7 x7 ∗ holds c a8 x8 ∗ holds c a9 x9 ∗ holds c a10 x10 ∗ holds c a11 x11 ∗ holds c a12 x12 ∗ holds c a13 x13 ∗ holds c a14 x14
            ∗ holds c a15 (msgDrugs x0 x1 x2 x3 x4 x5 x6 x7 x8 x9 x10 x11)
            ∗ holds c a16 (k2_pay44 (msgDrugs x0 x1 x2 x3 x4 x5 x6 x7 x8 x9 x10 x11) x12 x14)
            ∗ holds c a17 (k2_pay45 x1 x13)) -∗ Q ⟨⟩))
      ⊢ wp frame (wpE (defs₀ (F := F)) Variants.none (c : Thread nD τ) none) Set.univ
          (cc2__message_body a0 h0 a1 h1 a2 h2 a3 h3 a4 h4 a5 h5 a6 h6 a7 h7 a8 h8 a9 h9 a10 h10 a11 h11 a12 h12 a13 h13 a14 h14 a15 h15 a16 h16 a17 h17) Q := by
  simp only [cc2__message_body_eq_skeleton]; unfold cc2__message_body_skel
  simp only [k2_part11_eq_skeleton, k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton]
  unfold holds owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%d15, %f15, -, H15⟩, ⟨%d16, %f16, -, H16⟩, ⟨%d17, %f17, -, H17⟩, Hk⟩
  subst e0 e1 e2 e3 e4 e5 e6 e7 e8 e9 e10 e11 e12 e13 e14
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]; · iexists f7; isplitr; (· ipureintro; rfl); iexact H7
  isplitl [H8]; · iexists f8; isplitr; (· ipureintro; rfl); iexact H8
  isplitl [H9]; · iexists f9; isplitr; (· ipureintro; rfl); iexact H9
  isplitl [H10]; · iexists f10; isplitr; (· ipureintro; rfl); iexact H10
  isplitl [H11]; · iexists f11; isplitr; (· ipureintro; rfl); iexact H11
  isplitl [H12]; · iexists f12; isplitr; (· ipureintro; rfl); iexact H12
  isplitl [H13]; · iexists f13; isplitr; (· ipureintro; rfl); iexact H13
  isplitl [H14]; · iexists f14; isplitr; (· ipureintro; rfl); iexact H14
  have hd : View.canon (message_run.sl.H15_2 c a0 a1 a2 a3 a4 a5 a6 a7 a8 a9 a10 a11 f0 f1 f2 f3 f4 f5 f6 f7 f8 f9 f10 f11)
      = msgDrugs (View.read (Elt F) a0.view f0) (View.read (Elt F) a1.view f1) (View.read (Elt F) a2.view f2) (View.read (Elt F) a3.view f3) (View.read (Elt F) a4.view f4) (View.read (Elt F) a5.view f5) (View.read (Elt F) a6.view f6) (View.read (Elt F) a7.view f7) (View.read (Elt F) a8.view f8) (View.read (Elt F) a9.view f9) (View.read (Elt F) a10.view f10) (View.read (Elt F) a11.view f11) := by
    refine (show View.canon _ = msgDrugs (View.read (Elt F) a0.view f0) (View.ld (View.read (Elt F) a1.view f1) (Rect.unit (s := S256x256) ![0, 0] S256x256.size inb_S256x256_S256x256_0_0)) (View.read (Elt F) a2.view f2) (View.ld (View.read (Elt F) a3.view f3) (Rect.unit (s := S256x256) ![0, 0] S256x256.size inb_S256x256_S256x256_0_0)) (View.ld (View.read (Elt F) a4.view f4) (Rect.unit (s := S256x256) ![0, 0] S256x256.size inb_S256x256_S256x256_0_0)) (View.ld (View.read (Elt F) a5.view f5) (Rect.unit (s := S1x256) ![0, 0] S1x256.size inb_S1x256_S1x256_0_0)) (View.ld (View.read (Elt F) a6.view f6) (Rect.unit (s := S256x256) ![0, 0] S256x256.size inb_S256x256_S256x256_0_0)) (View.ld (View.read (Elt F) a7.view f7) (Rect.unit (s := S256x256) ![0, 0] S256x256.size inb_S256x256_S256x256_0_0)) (View.ld (View.read (Elt F) a8.view f8) (Rect.unit (s := S1x256) ![0, 0] S1x256.size inb_S1x256_S1x256_0_0)) (View.ld (View.read (Elt F) a9.view f9) (Rect.unit (s := S256x256) ![0, 0] S256x256.size inb_S256x256_S256x256_0_0)) (View.ld (View.read (Elt F) a10.view f10) (Rect.unit (s := S256x256) ![0, 0] S256x256.size inb_S256x256_S256x256_0_0)) (View.ld (View.read (Elt F) a11.view f11) (Rect.unit (s := S1x256) ![0, 0] S1x256.size inb_S1x256_S1x256_0_0)) from rfl).trans ?_
    rw [ld_whole]
    repeat rw [ld_whole]
  isplitl [H15]
  · iexists _; isplitr; swap; (· iexact H15); ipureintro
    refine (View.read_writes_eq_canon _ _ _ ?_).trans hd
    exact View.cover_of_tiled _ S256x256.size (by rfl)
  isplitl [H16]
  · iexists _; isplitr; swap; (· iexact H16); ipureintro
    refine (View.read_writes_full _ _ _ _ _).trans ?_
    unfold message_run.sl.v497
    rw [View.readAt_full, View.readAt_full]
    exact congrArg (fun y => k2_pay44 y _ _) ((View.readCov_eq_canon' _ _ _).trans ((ld_whole (View.canon _) _ _).trans hd))
  · iexists _; isplitr; swap; (· iexact H17); ipureintro
    refine (View.read_writes_full _ _ _ _ _).trans ?_
    show k2_pay45 _ _ = k2_pay45 _ _
    exact congrArg₂ k2_pay45 (View.readAt_full _ _ _) (View.readAt_full _ _ _)

/-- The block at every window of the message pipeline: what the fetch stages of the array. -/
abbrev msgBlk (V : Dev nD → Valuation τ sig (Elt F)) (d : Dev nD) (w : Fin cfg2.W) : ((cfg2.win w).xblock (cfg2.grid.coords t2_0)).Idx → Elt F (cfg2.win w).elt :=
  ((cfg2.win w).blk t2_0).view.read (Elt F) (V d (Proc.devRef .tc (arrRef spec2 w)))

/-- The message call's new drug embeddings from its arrays. -/
def drugsOf (V : Dev nD → Valuation τ sig (Elt F)) (d : Dev nD) : Vec F S512x256 .f32 :=
  msgDrugs (msgBlk V d 0) (msgBlk V d 1) (msgBlk V d 2) (msgBlk V d 3) (msgBlk V d 4) (msgBlk V d 5) (msgBlk V d 6) (msgBlk V d 7) (msgBlk V d 8) (msgBlk V d 9) (msgBlk V d 10) (msgBlk V d 11)

/-- The message call's proof data. -/
def msgDat (n b : ℕ) (V : Dev nD → Valuation τ sig (Elt F)) (d : Dev nD) : Dat τ (Elt F) (HIx 1) ℕ UU ℕ cfg2 d where
  A w := V d (Proc.devRef .tc (arrRef spec2 w))
  after w _ := match w with
    | ⟨0, _⟩ => msgBlk V d 0
    | ⟨1, _⟩ => msgBlk V d 1
    | ⟨2, _⟩ => msgBlk V d 2
    | ⟨3, _⟩ => msgBlk V d 3
    | ⟨4, _⟩ => msgBlk V d 4
    | ⟨5, _⟩ => msgBlk V d 5
    | ⟨6, _⟩ => msgBlk V d 6
    | ⟨7, _⟩ => msgBlk V d 7
    | ⟨8, _⟩ => msgBlk V d 8
    | ⟨9, _⟩ => msgBlk V d 9
    | ⟨10, _⟩ => msgBlk V d 10
    | ⟨11, _⟩ => msgBlk V d 11
    | ⟨12, _⟩ => msgBlk V d 12
    | ⟨13, _⟩ => msgBlk V d 13
    | ⟨14, _⟩ => msgBlk V d 14
    | ⟨15, _⟩ => drugsOf V d
    | ⟨16, _⟩ => k2_pay44 (drugsOf V d) (msgBlk V d 12) (msgBlk V d 14)
    | ⟨17, _⟩ => k2_pay45 (msgBlk V d 1) (msgBlk V d 13)
    | ⟨_ + 18, h⟩ => absurd h (Nat.not_lt.2 (Nat.le_add_left _ _))
  Φ _ := Pipeline.scopedRest spec2 d
  q _ := fullShare
  owed _ := (K (F := F)).Otc d n
  recorded _ := lowPairs (F := F) d b

theorem msg_row (t : Fin cfg2.N) : defs₀ (F := F) .tc cfg2.body (cfg2.bodyArgs t (cfg2.slots t)) = bodyAt2 t := rfl

set_option maxHeartbeats 2000000 in
theorem msg_body (n b : ℕ) (V : Dev nD → Valuation τ sig (Elt F)) (d : Dev nD) :
    BodyObligation (msgDat n b V d) (defs₀ (F := F)) 𝒱₀ none Set.univ := fun t => by
  obtain rfl := fin_N2 t
  rw [bigSep_W2, bigSep_W2]
  rw [show (msgDat n b V d).Φ t2_0.castSucc = Pipeline.scopedRest spec2 d from rfl, show (msgDat n b V d).Φ t2_0.succ = Pipeline.scopedRest spec2 d from rfl,
    show (msgDat n b V d).owesAt none t2_0.succ = (msgDat n b V d).owesAt none t2_0.castSucc from rfl, msg_row]
  have b0 : ∀ x, (msgDat n b V d).before 0 t2_0 x = msgBlk V d 0 := fun x => by unfold Dat.before; rw [if_pos (fetch2_0 _)]; rfl
  have b1 : ∀ x, (msgDat n b V d).before 1 t2_0 x = msgBlk V d 1 := fun x => by unfold Dat.before; rw [if_pos (fetch2_1 _)]; rfl
  have b2 : ∀ x, (msgDat n b V d).before 2 t2_0 x = msgBlk V d 2 := fun x => by unfold Dat.before; rw [if_pos (fetch2_2 _)]; rfl
  have b3 : ∀ x, (msgDat n b V d).before 3 t2_0 x = msgBlk V d 3 := fun x => by unfold Dat.before; rw [if_pos (fetch2_3 _)]; rfl
  have b4 : ∀ x, (msgDat n b V d).before 4 t2_0 x = msgBlk V d 4 := fun x => by unfold Dat.before; rw [if_pos (fetch2_4 _)]; rfl
  have b5 : ∀ x, (msgDat n b V d).before 5 t2_0 x = msgBlk V d 5 := fun x => by unfold Dat.before; rw [if_pos (fetch2_5 _)]; rfl
  have b6 : ∀ x, (msgDat n b V d).before 6 t2_0 x = msgBlk V d 6 := fun x => by unfold Dat.before; rw [if_pos (fetch2_6 _)]; rfl
  have b7 : ∀ x, (msgDat n b V d).before 7 t2_0 x = msgBlk V d 7 := fun x => by unfold Dat.before; rw [if_pos (fetch2_7 _)]; rfl
  have b8 : ∀ x, (msgDat n b V d).before 8 t2_0 x = msgBlk V d 8 := fun x => by unfold Dat.before; rw [if_pos (fetch2_8 _)]; rfl
  have b9 : ∀ x, (msgDat n b V d).before 9 t2_0 x = msgBlk V d 9 := fun x => by unfold Dat.before; rw [if_pos (fetch2_9 _)]; rfl
  have b10 : ∀ x, (msgDat n b V d).before 10 t2_0 x = msgBlk V d 10 := fun x => by unfold Dat.before; rw [if_pos (fetch2_10 _)]; rfl
  have b11 : ∀ x, (msgDat n b V d).before 11 t2_0 x = msgBlk V d 11 := fun x => by unfold Dat.before; rw [if_pos (fetch2_11 _)]; rfl
  have b12 : ∀ x, (msgDat n b V d).before 12 t2_0 x = msgBlk V d 12 := fun x => by unfold Dat.before; rw [if_pos (fetch2_12 _)]; rfl
  have b13 : ∀ x, (msgDat n b V d).before 13 t2_0 x = msgBlk V d 13 := fun x => by unfold Dat.before; rw [if_pos (fetch2_13 _)]; rfl
  have b14 : ∀ x, (msgDat n b V d).before 14 t2_0 x = msgBlk V d 14 := fun x => by unfold Dat.before; rw [if_pos (fetch2_14 _)]; rfl
  simp only [b0, b1, b2, b3, b4, b5, b6, b7, b8, b9, b10, b11, b12, b13, b14]
  iintro ⟨HΦ, Howes, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩, ⟨%_, H10⟩, ⟨%_, H11⟩, ⟨%_, H12⟩, ⟨%_, H13⟩, ⟨%_, H14⟩, ⟨%_, H15⟩, ⟨%_, H16⟩, ⟨%_, H17⟩⟩
  iapply (message_run d _ _ _ _ _ _ _ _ _ _ _ _ _ _ _ _ _ _ _ _ _ _ _ _ _ _ _ _ _ _ _ _ _ _ _ _
    (msgBlk V d 0) (msgBlk V d 1) (msgBlk V d 2) (msgBlk V d 3) (msgBlk V d 4) (msgBlk V d 5) (msgBlk V d 6) (msgBlk V d 7) (msgBlk V d 8) (msgBlk V d 9) (msgBlk V d 10) (msgBlk V d 11) (msgBlk V d 12) (msgBlk V d 13) (msgBlk V d 14) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  iintro ⟨H0, H1, H2, H3, H4, H5, H6, H7, H8, H9, H10, H11, H12, H13, H14, H15, H16, H17⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

end Cert.Proof.K

end
-- ==== Proof.Region3.lean ====
/-
  The pairs' pallas_call: eight grid points, each a block of 64 drugs against every target. What its body leaves in the
  block of scores, as the kernel's own arithmetic on the block of drugs and the whole of the rest, and the proof data of
  its pipeline.
-/
module

public import proofs.«01_k».proof.Proof.Region0
public import proofs.«01_k».proof.Proof.Gen.KernelIdeal.Points
public import Idealize.ShloMosaic.Lib.VecWindow

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation BodyObligationLoose ucRefs arrRef arrRefs afterRegion)
open Idealize.ShloMosaic.TcCoe

variable {F : FTy → Type} [FloatOps F]

local notation "𝕄" => MT nD τ sig (HIx 1) (Elt F) ℕ UU ℕ

/-- The scores of a block of 64 drugs against every target. -/
abbrev pairScore (x0 : Vec F S64x256 .f32) (x1 : Vec F S256x256 .f32) (x2 : Vec F S256x64 .f32) (x3 : Vec F S1x64 .f32) (x4 : Vec F S1x1x64 .f32)
    (x5 : Vec F S1x1 .f32) : Vec F S64x256 .f32 := k3_pay1 x0 x1 x2 x3 x4 x5

set_option maxHeartbeats 1000000 in
/-- The pairs' body from its six inputs. -/
theorem pair_run (c : Dev nD) (i : grid3.Coords) (a0 : Memref sig .tc .vmem S64x256 .f32) (h0 : a0.IsWhole) (a1 : Memref sig .tc .vmem S256x256 .f32) (h1 : a1.IsWhole)
    (a2 : Memref sig .tc .vmem S256x64 .f32) (h2 : a2.IsWhole) (a3 : Memref sig .tc .vmem S1x64 .f32) (h3 : a3.IsWhole)
    (a4 : Memref sig .tc .vmem S1x1x64 .f32) (h4 : a4.IsWhole) (a5 : Memref sig .tc .vmem S1x1 .f32) (h5 : a5.IsWhole)
    (a6 : Memref sig .tc .vmem S64x256 .f32) (h6 : a6.IsWhole)
    (x0 : Vec F S64x256 .f32) (x1 : Vec F S256x256 .f32) (x2 : Vec F S256x64 .f32) (x3 : Vec F S1x64 .f32) (x4 : Vec F S1x1x64 .f32)
    (x5 : Vec F S1x1 .f32) (Q : PUnit → sProp 𝕄) :
    iprop(holds c a0 x0 ∗ holds c a1 x1 ∗ holds c a2 x2 ∗ holds c a3 x3 ∗ holds c a4 x4 ∗ holds c a5 x5 ∗ (∃ x, holds c a6 x)
        ∗ (iprop(holds c a0 x0 ∗ holds c a1 x1 ∗ holds c a2 x2 ∗ holds c a3 x3 ∗ holds c a4 x4 ∗ holds c a5 x5
            ∗ holds c a6 (pairScore x0 x1 x2 x3 x4 x5)) -∗ Q ⟨⟩))
      ⊢ wp frame (wpE (defs₀ (F := F)) Variants.none (c : Thread nD τ) none) Set.univ
          (cc3__pair_body i a0 h0 a1 h1 a2 h2 a3 h3 a4 h4 a5 h5 a6 h6) Q := by
  simp only [cc3__pair_body_eq_skeleton]; unfold cc3__pair_body_skel
  unfold holds owns
  iintro ⟨⟨%f0, %e0, H0⟩, ⟨%f1, %e1, H1⟩, ⟨%f2, %e2, H2⟩, ⟨%f3, %e3, H3⟩, ⟨%f4, %e4, H4⟩, ⟨%f5, %e5, H5⟩, ⟨%d6, %f6, -, H6⟩, Hk⟩
  subst e0 e1 e2 e3 e4 e5
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  iexists _; isplitr; swap; (· iexact H6); ipureintro
  refine (View.read_writes_full _ _ _ _ _).trans ?_
  show k3_pay1 _ _ _ _ _ _ = k3_pay1 _ _ _ _ _ _
  congr 1 <;> exact View.readAt_full _ _ _

/-- What the fetch at point `t` stages of window `w`'s array. -/
abbrev pairBlk (V : Dev nD → Valuation τ sig (Elt F)) (d : Dev nD) (w : Fin cfg3.W) (t : Fin cfg3.N) : ((cfg3.win w).xblock (cfg3.grid.coords t)).Idx → Elt F (cfg3.win w).elt :=
  ((cfg3.win w).blk t).view.read (Elt F) (V d (Proc.devRef .tc (arrRef spec3 w)))

/-- The pairs' proof data from the buffers at `V`, the core owing what SparseCore call `n` asks. -/
def pairDat (n b : ℕ) (V : Dev nD → Valuation τ sig (Elt F)) (d : Dev nD) : Dat τ (Elt F) (HIx 1) ℕ UU ℕ cfg3 d where
  A w := V d (Proc.devRef .tc (arrRef spec3 w))
  after w t := match w with
    | ⟨0, _⟩ => pairBlk V d 0 t
    | ⟨1, _⟩ => pairBlk V d 1 t
    | ⟨2, _⟩ => pairBlk V d 2 t
    | ⟨3, _⟩ => pairBlk V d 3 t
    | ⟨4, _⟩ => pairBlk V d 4 t
    | ⟨5, _⟩ => pairBlk V d 5 t
    | ⟨6, _⟩ => pairScore (pairBlk V d 0 t) (pairBlk V d 1 t) (pairBlk V d 2 t) (pairBlk V d 3 t) (pairBlk V d 4 t) (pairBlk V d 5 t)
  Φ _ := Pipeline.scopedRest spec3 d
  q _ := fullShare
  owed _ := (K (F := F)).Otc d n
  recorded _ := lowPairs (F := F) d b

/-- The body table's row at a point is the body at that point. -/
theorem pair_row (t : Fin cfg3.N) : defs₀ (F := F) .tc cfg3.body (cfg3.bodyArgs t (cfg3.slots t)) = bodyAt3 t := rfl

theorem pair_body (n b : ℕ) (V : Dev nD → Valuation τ sig (Elt F)) (d : Dev nD) :
    BodyObligation (pairDat n b V d) (defs₀ (F := F)) 𝒱₀ none Set.univ := fun t => by
  rw [bigSep_W3, bigSep_W3, pair_row]
  rw [show (pairDat n b V d).Φ t.castSucc = Pipeline.scopedRest spec3 d from rfl, show (pairDat n b V d).Φ t.succ = Pipeline.scopedRest spec3 d from rfl,
    show (pairDat n b V d).owesAt none t.succ = (pairDat n b V d).owesAt none t.castSucc from rfl]
  have b0 : ∀ x, (pairDat n b V d).before 0 t x = pairBlk V d 0 t := fun x =>
    (Pipeline.Dat.before_in_eq_fetched (pairDat n b V d) 0 rfl (fun _ => rfl) (fun _ _ _ => rfl) (fun _ => rfl) t x).trans rfl
  have b1 : ∀ x, (pairDat n b V d).before 1 t x = pairBlk V d 1 t := fun x =>
    (Pipeline.Dat.before_in_eq_fetched (pairDat n b V d) 1 rfl (fun _ => rfl) (fun _ _ _ => rfl) (fun _ => rfl) t x).trans rfl
  have b2 : ∀ x, (pairDat n b V d).before 2 t x = pairBlk V d 2 t := fun x =>
    (Pipeline.Dat.before_in_eq_fetched (pairDat n b V d) 2 rfl (fun _ => rfl) (fun _ _ _ => rfl) (fun _ => rfl) t x).trans rfl
  have b3 : ∀ x, (pairDat n b V d).before 3 t x = pairBlk V d 3 t := fun x =>
    (Pipeline.Dat.before_in_eq_fetched (pairDat n b V d) 3 rfl (fun _ => rfl) (fun _ _ _ => rfl) (fun _ => rfl) t x).trans rfl
  have b4 : ∀ x, (pairDat n b V d).before 4 t x = pairBlk V d 4 t := fun x =>
    (Pipeline.Dat.before_in_eq_fetched (pairDat n b V d) 4 rfl (fun _ => rfl) (fun _ _ _ => rfl) (fun _ => rfl) t x).trans rfl
  have b5 : ∀ x, (pairDat n b V d).before 5 t x = pairBlk V d 5 t := fun x =>
    (Pipeline.Dat.before_in_eq_fetched (pairDat n b V d) 5 rfl (fun _ => rfl) (fun _ _ _ => rfl) (fun _ => rfl) t x).trans rfl
  simp only [b0, b1, b2, b3, b4, b5]
  iintro ⟨HΦ, Howes, ⟨%_, H0⟩, ⟨%_, H1⟩, ⟨%_, H2⟩, ⟨%_, H3⟩, ⟨%_, H4⟩, ⟨%_, H5⟩, ⟨%_, H6⟩⟩
  iapply (pair_run d _ _ _ _ _ _ _ _ _ _ _ _ _ _ _
    (pairBlk V d 0 t) (pairBlk V d 1 t) (pairBlk V d 2 t) (pairBlk V d 3 t) (pairBlk V d 4 t) (pairBlk V d 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

end Cert.Proof.K

end
-- ==== Proof.Vals.lean ====
/-
  What the buffers hold between @main's calls, from the launch on, and the proof data of its three TensorCore calls.
-/
module

public import proofs.«01_k».proof.Proof.Region0
public import proofs.«01_k».proof.Proof.Region2
public import proofs.«01_k».proof.Proof.Region3

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation BodyObligationLoose ucRefs arrRef arrRefs afterRegion)
open Idealize.ShloMosaic.TcCoe

variable {F : FTy → Type} [FloatOps F]

local notation "𝕄" => MT nD τ sig (HIx 1) (Elt F) ℕ UU ℕ

/-- The level the waits of the TensorCore lie at or below before SparseCore call `n`. -/
abbrev low (n : ℕ) : ℕ := 8 * SparseCore.Cfg.Blocks.fst (Q := 1) (N := 1) n

/-- @main's host lines before the encoders call. -/
def ops0 : List (HloOp τ sig (Elt F)) :=
  [StableHlo.reshape main_arg4 main_v0 (rfl : (.f32 : EltTy) = .f32) shapeCasts_S256_S1x256,
   StableHlo.reshape main_arg6 main_v1 (rfl : (.f32 : EltTy) = .f32) shapeCasts_S256_S1x256,
   StableHlo.reshape main_arg8 main_v2 (rfl : (.f32 : EltTy) = .f32) shapeCasts_S256_S1x256,
   StableHlo.reshape main_arg10 main_v3 (rfl : (.f32 : EltTy) = .f32) shapeCasts_S256_S1x256]

/-- What they write. -/
abbrev outs0 : List (Ref sig .tc) := [main_v0, main_v1, main_v2, main_v3]

theorem ops0_writes : (ops0 (F := F)).map HloOp.writes = outs0.map fun r => {Proc.devRef (τ := τ) .tc r} := rfl

theorem ops0_uc : ∀ op ∈ (ops0 (F := F)), op.bufs ⊆ ucRefs τ sig := fun op h =>
  Pipeline.sub_ucRefs op (List.forall_iff_forall_mem.mp (show (ops0 (F := F)).Forall fun op => op.bufs ⊆ StableHlo.tcRefs τ sig by
    simp [ops0, StableHlo.unary_bufs_sub, StableHlo.reshape_bufs_sub]) op h)

theorem ops0_fresh : ∀ op ∈ (ops0 (F := F)), op.fresh = ∅ :=
  List.forall_iff_forall_mem.mp (StableHlo.forall_fresh_of_map rfl)

/-- @main's host lines before the SparseCore call. -/
def ops1 : List (HloOp τ sig (Elt F)) :=
  [StableHlo.unary main_arg2 main_v5 ((extractStridedSlice S1x16384 ![0, 0] · slices_S2x16384_S1x16384_0_0) : (⟨S2x16384, .i32⟩ : BufTy).Contents (Elt F) → (⟨S1x16384, .i32⟩ : BufTy).Contents (Elt F)),
   StableHlo.reshape main_v5 main_v6 (rfl : (.i32 : EltTy) = .i32) shapeCasts_S1x16384_S16384,
   StableHlo.unary main_arg2 main_v7 ((extractStridedSlice S1x16384 ![1, 0] · slices_S2x16384_S1x16384_1_0) : (⟨S2x16384, .i32⟩ : BufTy).Contents (Elt F) → (⟨S1x16384, .i32⟩ : BufTy).Contents (Elt F)),
   StableHlo.reshape main_v7 main_v8 (rfl : (.i32 : EltTy) = .i32) shapeCasts_S1x16384_S16384]

/-- What they write. -/
abbrev outs1 : List (Ref sig .tc) := [main_v5, main_v6, main_v7, main_v8]

theorem ops1_writes : (ops1 (F := F)).map HloOp.writes = outs1.map fun r => {Proc.devRef (τ := τ) .tc r} := rfl

theorem ops1_uc : ∀ op ∈ (ops1 (F := F)), op.bufs ⊆ ucRefs τ sig := fun op h =>
  Pipeline.sub_ucRefs op (List.forall_iff_forall_mem.mp (show (ops1 (F := F)).Forall fun op => op.bufs ⊆ StableHlo.tcRefs τ sig by
    simp [ops1, StableHlo.unary_bufs_sub, StableHlo.reshape_bufs_sub]) op h)

theorem ops1_fresh : ∀ op ∈ (ops1 (F := F)), op.fresh = ∅ :=
  List.forall_iff_forall_mem.mp (StableHlo.forall_fresh_of_map rfl)

/-- @main's host lines before the message call. -/
def ops2 : List (HloOp τ sig (Elt F)) :=
  [StableHlo.unary main_arg11 main_v10 ((extractStridedSlice S256x256 ![0, 0] · slices_S512x256_S256x256_0_0) : (⟨S512x256, .f32⟩ : BufTy).Contents (Elt F) → (⟨S256x256, .f32⟩ : BufTy).Contents (Elt F)),
   StableHlo.unary main_arg11 main_v11 ((extractStridedSlice S256x256 ![256, 0] · slices_S512x256_S256x256_256_0) : (⟨S512x256, .f32⟩ : BufTy).Contents (Elt F) → (⟨S256x256, .f32⟩ : BufTy).Contents (Elt F)),
   StableHlo.reshape main_arg12 main_v12 (rfl : (.f32 : EltTy) = .f32) shapeCasts_S256_S1x256,
   StableHlo.unary main_arg13 main_v13 ((extractStridedSlice S256x256 ![0, 0] · slices_S512x256_S256x256_0_0) : (⟨S512x256, .f32⟩ : BufTy).Contents (Elt F) → (⟨S256x256, .f32⟩ : BufTy).Contents (Elt F)),
   StableHlo.unary main_arg13 main_v14 ((extractStridedSlice S256x256 ![256, 0] · slices_S512x256_S256x256_256_0) : (⟨S512x256, .f32⟩ : BufTy).Contents (Elt F) → (⟨S256x256, .f32⟩ : BufTy).Contents (Elt F)),
   StableHlo.reshape main_arg14 main_v15 (rfl : (.f32 : EltTy) = .f32) shapeCasts_S256_S1x256,
   StableHlo.unary main_arg15 main_v16 ((extractStridedSlice S256x256 ![0, 0] · slices_S512x256_S256x256_0_0) : (⟨S512x256, .f32⟩ : BufTy).Contents (Elt F) → (⟨S256x256, .f32⟩ : BufTy).Contents (Elt F)),
   StableHlo.unary main_arg15 main_v17 ((extractStridedSlice S256x256 ![256, 0] · slices_S512x256_S256x256_256_0) : (⟨S512x256, .f32⟩ : BufTy).Contents (Elt F) → (⟨S256x256, .f32⟩ : BufTy).Contents (Elt F)),
   StableHlo.reshape main_arg16 main_v18 (rfl : (.f32 : EltTy) = .f32) shapeCasts_S256_S1x256,
   StableHlo.unary main_arg17 main_v19 ((extractStridedSlice S256x256 ![0, 0] · slices_S512x256_S256x256_0_0) : (⟨S512x256, .f32⟩ : BufTy).Contents (Elt F) → (⟨S256x256, .f32⟩ : BufTy).Contents (Elt F)),
   StableHlo.unary main_arg17 main_v20 ((extractStridedSlice S256x256 ![256, 0] · slices_S512x256_S256x256_256_0) : (⟨S512x256, .f32⟩ : BufTy).Contents (Elt F) → (⟨S256x256, .f32⟩ : BufTy).Contents (Elt F)),
   StableHlo.reshape main_arg18 main_v21 (rfl : (.f32 : EltTy) = .f32) shapeCasts_S256_S1x256]

/-- What they write. -/
abbrev outs2 : List (Ref sig .tc) := [main_v10, main_v11, main_v12, main_v13, main_v14, main_v15, main_v16, main_v17, main_v18, main_v19, main_v20, main_v21]

theorem ops2_writes : (ops2 (F := F)).map HloOp.writes = outs2.map fun r => {Proc.devRef (τ := τ) .tc r} := rfl

theorem ops2_uc : ∀ op ∈ (ops2 (F := F)), op.bufs ⊆ ucRefs τ sig := fun op h =>
  Pipeline.sub_ucRefs op (List.forall_iff_forall_mem.mp (show (ops2 (F := F)).Forall fun op => op.bufs ⊆ StableHlo.tcRefs τ sig by
    simp [ops2, StableHlo.unary_bufs_sub, StableHlo.reshape_bufs_sub]) op h)

theorem ops2_fresh : ∀ op ∈ (ops2 (F := F)), op.fresh = ∅ :=
  List.forall_iff_forall_mem.mp (StableHlo.forall_fresh_of_map rfl)

/-- @main's host lines before the pair call. -/
def ops3 : List (HloOp τ sig (Elt F)) :=
  [StableHlo.reshape main_arg20 main_v23 (rfl : (.f32 : EltTy) = .f32) shapeCasts_S64_S1x64,
   StableHlo.reshape main_arg22 main_v24 (rfl : (.f32 : EltTy) = .f32) shapeCasts_S1_S1x1,
   StableHlo.reshape main_arg21 main_v25 (rfl : (.f32 : EltTy) = .f32) shapeCasts_S64x1_S1x1x64]

/-- What they write. -/
abbrev outs3 : List (Ref sig .tc) := [main_v23, main_v24, main_v25]

theorem ops3_writes : (ops3 (F := F)).map HloOp.writes = outs3.map fun r => {Proc.devRef (τ := τ) .tc r} := rfl

theorem ops3_uc : ∀ op ∈ (ops3 (F := F)), op.bufs ⊆ ucRefs τ sig := fun op h =>
  Pipeline.sub_ucRefs op (List.forall_iff_forall_mem.mp (show (ops3 (F := F)).Forall fun op => op.bufs ⊆ StableHlo.tcRefs τ sig by
    simp [ops3, StableHlo.unary_bufs_sub, StableHlo.reshape_bufs_sub]) op h)

theorem ops3_fresh : ∀ op ∈ (ops3 (F := F)), op.fresh = ∅ :=
  List.forall_iff_forall_mem.mp (StableHlo.forall_fresh_of_map rfl)

variable (m : (ℓ : Loc nD τ sig) → Buf (Elt F) ℓ)

/-- What every buffer holds at the launch, -/
def V0 (d : Dev nD) : Valuation τ sig (Elt F) := fun r => m (d, r)
/-- where the encoders are called, -/
def V1 (d : Dev nD) : Valuation τ sig (Elt F) := StableHlo.after ops0 (V0 m d)
/-- after them, -/
def V2 (d : Dev nD) : Valuation τ sig (Elt F) := afterRegion (encDat 0 (low 0) (V1 m) d) (V1 m d)
/-- where the SparseCore is called, -/
def V3 (d : Dev nD) : Valuation τ sig (Elt F) := StableHlo.after ops1 (V2 m d)
/-- after it: the partial counts of the edges, -/
def V4 (d : Dev nD) : Valuation τ sig (Elt F) :=
  Function.update (V3 m d) (Proc.devRef .tc main_v9) (countsOf (F := F) (V3 m d (Proc.devRef .tc main_v6)) (V3 m d (Proc.devRef .tc main_v8)))
/-- where the messages are called, -/
def V5 (d : Dev nD) : Valuation τ sig (Elt F) := StableHlo.after ops2 (V4 m d)
/-- after them, -/
def V6 (d : Dev nD) : Valuation τ sig (Elt F) := afterRegion (msgDat 1 (low 1) (V5 m) d) (V5 m d)
/-- where the pairs are called, -/
def V7 (d : Dev nD) : Valuation τ sig (Elt F) := StableHlo.after ops3 (V6 m d)
/-- and after them, at the end. -/
def V8 (d : Dev nD) : Valuation τ sig (Elt F) := afterRegion (pairDat 1 (low 1) (V7 m) d) (V7 m d)

/-- Every edge's ends name one of 256 nodes. -/
structure EndsOk : Prop where
  src_lt : ∀ d j, (V3 m d (Proc.devRef .tc main_v6) j : BitVec 32).toNat < 256
  tgt_lt : ∀ d j, (V3 m d (Proc.devRef .tc main_v8) j : BitVec 32).toNat < 256

variable {m}

/-- The ends the SparseCore reads. -/
def endsOf (h : EndsOk m) : Ends F where
  src d := V3 m d (Proc.devRef .tc main_v6)
  tgt d := V3 m d (Proc.devRef .tc main_v8)
  src_lt := h.src_lt
  tgt_lt := h.tgt_lt

variable (m)

/-- The three pipelines' proof data. -/
def pdats : Dats F := fun p => match p with
  | 0 => fun d => encDat 0 (low 0) (V1 m) d
  | 1 => fun d => msgDat 1 (low 1) (V5 m) d
  | 2 => fun d => pairDat 1 (low 1) (V7 m) d

theorem ok0 : RegionOk (pdats m) 0 0 (low 0) (V1 m) := by
  have hd : ∀ d, pdats m 0 d = encDat 0 (low 0) (V1 m) d := fun _ => rfl
  generalize V1 m = V at hd ⊢
  generalize pdats m = pd at hd ⊢
  refine ⟨fun d => ?_, fun d t => ?_, fun d t => ?_, fun d w => ?_, fun d t => ?_, fun d w => ?_⟩ <;> rw [hd d]
  · exact (enc_body 0 (low 0) V d).loose
  · rfl
  · rfl
  · rfl
  · exact (show (encDat 0 (low 0) V d).Φ t = Pipeline.scopedRest spec0 d from rfl).trans (congrArg (fun w => Pipeline.scopedRest w d) (show spec0 = (pcfgs (F := F) 0).spec from rfl))
  · rfl

theorem ok1 : RegionOk (pdats m) 1 1 (low 1) (V5 m) := by
  have hd : ∀ d, pdats m 1 d = msgDat 1 (low 1) (V5 m) d := fun _ => rfl
  generalize V5 m = V at hd ⊢
  generalize pdats m = pd at hd ⊢
  refine ⟨fun d => ?_, fun d t => ?_, fun d t => ?_, fun d w => ?_, fun d t => ?_, fun d w => ?_⟩ <;> rw [hd d]
  · exact (msg_body 1 (low 1) V d).loose
  · rfl
  · rfl
  · rfl
  · exact (show (msgDat 1 (low 1) V d).Φ t = Pipeline.scopedRest spec2 d from rfl).trans (congrArg (fun w => Pipeline.scopedRest w d) (show spec2 = (pcfgs (F := F) 1).spec from rfl))
  · rfl

theorem ok2 : RegionOk (pdats m) 2 1 (low 1) (V7 m) := by
  have hd : ∀ d, pdats m 2 d = pairDat 1 (low 1) (V7 m) d := fun _ => rfl
  generalize V7 m = V at hd ⊢
  generalize pdats m = pd at hd ⊢
  refine ⟨fun d => ?_, fun d t => ?_, fun d t => ?_, fun d w => ?_, fun d t => ?_, fun d w => ?_⟩ <;> rw [hd d]
  · exact (pair_body 1 (low 1) V d).loose
  · rfl
  · rfl
  · rfl
  · exact (show (pairDat 1 (low 1) V d).Φ t = Pipeline.scopedRest spec3 d from rfl).trans (congrArg (fun w => Pipeline.scopedRest w d) (show spec3 = (pcfgs (F := F) 2).spec from rfl))
  · rfl

end Cert.Proof.K

end
-- ==== Proof.Main.lean ====
/-
  @main's run on the TensorCore: the host lines, the three pallas_calls and the SparseCore call, and the program's.
-/
module

public import proofs.«01_k».proof.Proof.Vals

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation BodyObligationLoose ucRefs arrRef arrRefs afterRegion)
open Idealize.ShloMosaic.TcCoe

variable {F : FTy → Type} [FloatOps F]

local notation "𝕄" => MT nD τ sig (HIx 1) (Elt F) ℕ UU ℕ

/-- What the TensorCore keeps beside what it owes, before SparseCore call `n`. -/
abbrev tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last (N := 1) q)) 1)))

theorem tcSt_open (d : Dev nD) (n : ℕ) : ((K (F := F)).tcSt EH d n : sProp 𝕄) = iprop(owing n (low n) d ∗ tcRest d n) := rfl

/-- @main, its host lines gathered. -/
theorem main_eq (d : Dev nD) : main (F := F) d = (StableHlo.seq ops0 >>= fun _ => Prog.lift (.customCall (SparseCore.inner (Pipeline.entry 0)) ()) >>= fun _ =>
      StableHlo.seq ops1 >>= fun _ => sc.run d 0 >>= fun _ =>
      StableHlo.seq ops2 >>= fun _ => Prog.lift (.customCall (SparseCore.inner (Pipeline.entry 1)) ()) >>= fun _ =>
      StableHlo.seq ops3 >>= fun _ => Prog.lift (.customCall (SparseCore.inner (Pipeline.entry 2)) ()) >>= fun _ => pure ⟨⟩) := by
  simp only [main, ops0, ops1, ops2, ops3, StableHlo.seq, bind_assoc, pure_bind]

/-- The three buffers of the SparseCore call. -/
abbrev scRefs : Finset (DevRef τ sig) := {Proc.devRef .tc main_v6, Proc.devRef .tc main_v8, Proc.devRef .tc main_v9}

theorem scRefs_sub : scRefs ⊆ ucRefs τ sig := by
  intro b hb
  simp only [Finset.mem_insert, Finset.mem_singleton] at hb
  rcases hb with rfl | rfl | rfl <;> exact Finset.mem_filter.mpr ⟨StableHlo.devRef_mem_tcRefs _, by decide⟩

omit [FloatOps F] in
theorem held_sc (d : Dev nD) (V : Valuation τ sig (Elt F)) :
    (StableHlo.held (T d) scRefs V : sProp 𝕄)
      = iprop((sLoc d ↦{fullShare} V (Proc.devRef .tc main_v6)) ∗ (tLoc d ↦{fullShare} V (Proc.devRef .tc main_v8)) ∗ oLoc d ↦{fullShare} V (Proc.devRef .tc main_v9)) := by
  unfold StableHlo.held
  rw [SparseCore.bigSep_insert' (by decide), SparseCore.bigSep_insert' (by decide), bigSep_singleton]

/-- A group of host lines, from the buffers at `V` to the buffers at `V'`. -/
theorem wp_ops (d : Dev nD) (ops : List (HloOp τ sig (Elt F))) (hu : ∀ op ∈ ops, op.bufs ⊆ ucRefs τ sig) (hf : ∀ op ∈ ops, op.fresh = ∅)
    (V V' : Dev nD → Valuation τ sig (Elt F)) (e : ∀ d, V' d = StableHlo.after ops (V d))
    (k : PUnit → Prog (TpuEff nD τ sig (Elt F) (SparseCore.Sig (ΛP (F := F)) 1) .tc) PUnit) {Q : PUnit → sProp 𝕄} :
    iprop(boundary (SparseCore.T d) ∗ heldAt V d)
      ⊢ iprop(((boundary (SparseCore.T d) ∗ heldAt V' d) -∗ wp frame (wpE ((K (F := F)).defs (D (F := F))) 𝒱 (SparseCore.T d) none) Set.univ (k ⟨⟩) Q)
        -∗ wp frame (wpE ((K (F := F)).defs (D (F := F))) 𝒱 (SparseCore.T d) none) Set.univ (StableHlo.seq ops >>= k) Q) := by
  unfold heldAt
  rw [e d]
  exact StableHlo.wp_seq 𝒱 none Set.univ d (ucRefs τ sig) k ops hu hf (V d)

/-- The launch's buffers, held. -/
theorem launch_held (m : (ℓ : Loc nD τ sig) → Buf (Elt F) ℓ) (d : Dev nD) :
    (unscopedBufs d (fun b => m ((SparseCore.T d).loc b)) : sProp 𝕄) = heldAt (V0 m) d := Pipeline.unscopedBufs_held d (V0 m d)

omit [FloatOps F] in
/-- Three pieces, apart. -/
theorem bigSep_univ3 (Φ : Fin 3 → sProp 𝕄) : (bigSep Finset.univ Φ) = iprop(Φ 0 ∗ Φ 1 ∗ Φ 2) := by
  rw [show (Finset.univ : Finset (Fin 3)) = {0, 1, 2} by decide, SparseCore.bigSep_insert' (by decide), SparseCore.bigSep_insert' (by decide), bigSep_singleton]

/-- The SparseCore call's buffers put back, the counts changed. -/
theorem sc_back (d : Dev nD) {m : (ℓ : Loc nD τ sig) → Buf (Elt F) ℓ} (h : EndsOk m) :
    iprop((sLoc d ↦{fullShare} (endsOf h).src d) ∗ (tLoc d ↦{fullShare} (endsOf h).tgt d) ∗ (oLoc d ↦{fullShare} countsOf (F := F) ((endsOf h).src d) ((endsOf h).tgt d))
        ∗ StableHlo.held (T d) (ucRefs τ sig \ scRefs) (V3 m d))
      ⊢ (StableHlo.held (T d) (ucRefs τ sig) (V4 m d) : sProp 𝕄) := by
  have e6 : V4 m d (Proc.devRef .tc main_v6) = V3 m d (Proc.devRef .tc main_v6) := Function.update_of_ne (StableHlo.devRef_ne_of_ne (by decide)) _ _
  have e8 : V4 m d (Proc.devRef .tc main_v8) = V3 m d (Proc.devRef .tc main_v8) := Function.update_of_ne (StableHlo.devRef_ne_of_ne (by decide)) _ _
  have e9 : V4 m d (Proc.devRef .tc main_v9) = countsOf (F := F) (V3 m d (Proc.devRef .tc main_v6)) (V3 m d (Proc.devRef .tc main_v8)) := Function.update_self _ _ _
  have er : (StableHlo.held (T d) (ucRefs τ sig \ scRefs) (V4 m d) : sProp 𝕄) = StableHlo.held (T d) (ucRefs τ sig \ scRefs) (V3 m d) :=
    StableHlo.held_congr (T d) fun b hb => Function.update_of_ne (fun e => (Finset.mem_sdiff.mp hb).2 (by rw [e]; simp)) _ _
  rw [StableHlo.held_sub_split (T d) scRefs_sub (V4 m d), held_sc, er, e6, e8, e9]
  iintro ⟨Hs, Ht, Ho, Hrest⟩
  isplitl [Hs Ht Ho]
  · isplitl [Hs]; · iexact Hs
    isplitl [Ht]; · iexact Ht
    iexact Ho
  iexact Hrest

variable {m : (ℓ : Loc nD τ sig) → Buf (Elt F) ℓ} (h : EndsOk m) (ρ : Dev nD → PrngReg)

theorem hmain [∀ e, Nonempty (Elt F e)] (κ : GSem nD τ sig → ℕ) (d : Dev nD) :
    iprop((K (F := F)).ctx EH (P (endsOf h)) κ ∗ (K (F := F)).tcSt EH d 0 ∗ (K (F := F)).tcRes m ρ d ∗ tcGhost (F := F) d)
      ⊢ wp frame (wpE ((K (F := F)).defs (D (F := F))) 𝒱 (T d) none) Set.univ (main d)
          fun _ => iprop((K (F := F)).tcSt EH d 1 ∗ heldAt (V8 m) d ∗ (K (F := F)).tcEnd d) := by
  unfold SparseCore.Cfg.tcRes SparseCore.Cfg.tcEnd
  rw [main_eq, tcSt_open]
  iintro ⟨#Hctx, ⟨HO, Hst⟩, ⟨Hb, bufs, Hts, -⟩, Hgs, Hts'⟩
  ihave #Hlev := (SparseCore.Cfg.ctx_levAts κ) $$ Hctx
  ihave Hh := (Entails.of_eq (launch_held m d)) $$ bufs
  ihave Hgs := (Entails.of_eq (bigSep_univ3 _)) $$ Hgs
  icases Hgs with ⟨Hg0, Hg1, Hg2⟩
  ihave Hts' := (Entails.of_eq (bigSep_univ3 _)) $$ Hts'
  icases Hts' with ⟨Ht0, Ht1, Ht2⟩
  iapply (wp_ops d ops0 ops0_uc ops0_fresh (V0 m) (V1 m) (fun _ => rfl) _) $$ [Hb Hh]
  · isplitl [Hb]; · iexact Hb
    iexact Hh
  iintro ⟨Hb, Hh⟩
  rw [wp_bind]
  iapply (wp_region (ok0 m) d _)
  isplitr [Hb Hh HO Hg0 Ht0]
  rotate_left
  · isplitl [Hb]; · iexact Hb
    isplitl [Hh HO]
    · isplitl [Hh]; · iexact Hh
      iexact HO
    isplitr; · iexact Hlev
    isplitl [Hg0]; · iexact Hg0
    iexact Ht0
  iintro ⟨Hb, Hh, HO⟩
  iapply (wp_ops d ops1 ops1_uc ops1_fresh (V2 m) (V3 m) (fun _ => rfl) _) $$ [Hb Hh]
  · isplitl [Hb]; · iexact Hb
    iexact Hh
  iintro ⟨Hb, Hh⟩
  rw [wp_bind]
  ihave Hh := (Entails.of_eq (StableHlo.held_sub_split (T d) scRefs_sub (V3 m d))) $$ Hh
  icases Hh with ⟨Hsc, Hrest⟩
  ihave Hsc := (Entails.of_eq (held_sc d (V3 m d))) $$ Hsc
  icases Hsc with ⟨Hs, Ht, Ho⟩
  iapply ((K (F := F)).wp_run (D (F := F)) 𝒱 (EH := EH) (P := P (endsOf h)) κ d 0)
  isplitr; · iexact Hctx
  isplitl [HO Hst]
  · iapply (Entails.of_eq (tcSt_open d 0).symm)
    isplitl [HO]; · iexact HO
    iexact Hst
  isplitl [Hs Ht Ho]
  · iapply (st_intro (endsOf h) d)
    isplitl [Hs]; · iexact Hs
    isplitl [Ht]; · iexact Ht
    iexists _; iexact Ho
  iintro ⟨Hst, Hdn⟩
  ihave Hdn := (dn_elim (endsOf h) d) $$ Hdn
  icases Hdn with ⟨Hs, Ht, Ho⟩
  ihave Hst := (show ((K (F := F)).tcSt EH d ((0 : Fin 1).val + 1) : sProp 𝕄) ⊢ iprop(owing 1 (low 1) d ∗ tcRest d 1) from Entails.of_eq (tcSt_open d 1)) $$ Hst
  icases Hst with ⟨HO, Hst⟩
  ihave Hh := (sc_back d h) $$ [Hs Ht Ho Hrest]
  · isplitl [Hs]; · iexact Hs
    isplitl [Ht]; · iexact Ht
    isplitl [Ho]; · iexact Ho
    iexact Hrest
  iapply (wp_ops d ops2 ops2_uc ops2_fresh (V4 m) (V5 m) (fun _ => rfl) _) $$ [Hb Hh]
  · isplitl [Hb]; · iexact Hb
    iexact Hh
  iintro ⟨Hb, Hh⟩
  rw [wp_bind]
  iapply (wp_region (ok1 m) d _)
  isplitr [Hb Hh HO Hg1 Ht1]
  rotate_left
  · isplitl [Hb]; · iexact Hb
    isplitl [Hh HO]
    · isplitl [Hh]; · iexact Hh
      iexact HO
    isplitr; · iexact Hlev
    isplitl [Hg1]; · iexact Hg1
    iexact Ht1
  iintro ⟨Hb, Hh, HO⟩
  iapply (wp_ops d ops3 ops3_uc ops3_fresh (V6 m) (V7 m) (fun _ => rfl) _) $$ [Hb Hh]
  · isplitl [Hb]; · iexact Hb
    iexact Hh
  iintro ⟨Hb, Hh⟩
  rw [wp_bind]
  iapply (wp_region (ok2 m) d _)
  isplitr [Hb Hh HO Hg2 Ht2]
  rotate_left
  · isplitl [Hb]; · iexact Hb
    isplitl [Hh HO]
    · isplitl [Hh]; · iexact Hh
      iexact HO
    isplitr; · iexact Hlev
    isplitl [Hg2]; · iexact Hg2
    iexact Ht2
  iintro ⟨Hb, Hh, HO⟩
  iapply (Entails.of_eq (wp_ret _ _ _ _ _).symm)
  imodintro
  isplitl [HO Hst]
  · iapply (Entails.of_eq (tcSt_open d 1).symm)
    isplitl [HO]; · iexact HO
    iexact Hst
  isplitl [Hh]; · iexact Hh
  isplitl [Hb]; · iexact Hb
  iexact Hts

/-- The unscoped buffers at the end, as memory. -/
def fq (d : Dev nD) (s' : Phys nD τ sig (Elt F)) : Prop := ∀ r ∈ ucRefs τ sig, s'.mem.mem (d, r) = V8 m d r

theorem hfin (d : Dev nD) (s' : Phys nD τ sig (Elt F)) : iprop(heldAt (V8 m) d ∗ SI s') ⊢ (⌜fq (m := m) d s'⌝ : sProp 𝕄) :=
  (pointsTo_read_all (ucRefs τ sig) (fun r => (d, r)) (fun r => V8 m d r) s').trans sep_elim_left

include h in
/-- The program's run: every unscoped buffer ends at `V8`, every counter at zero. -/
theorem run_main [∀ e, Nonempty (Elt F e)] :
    θ_run (Cert.KernelIdeal.defs (F := F)) (Cert.KernelIdeal.threads (F := F)) ⟨m, fun _ => 0, ρ⟩
      fun r => (∀ d : Dev nD, ∀ b ∈ ucRefs τ sig, r.2.mem (d, b) = V8 m d b) ∧ r.2.sem = fun _ => 0 :=
  SparseCore.Cfg.θ_run_sc_quiescent (K := K (F := F)) (D := D (F := F)) (𝒱 := 𝒱) (EH := EH) (P := P (endsOf h)) (A := ∅) facts v₀
    (fun q hq => match q with | 0 => nomatch hq)
    (fun q _ => match q with | 0 => tileObl (endsOf h))
    (fun q _ => match q with | 0 => SparseCore.Cfg.VecSplit.of_plain (vecSplit (endsOf h)))
    m ρ main (fun d => tcGhost d) (heldAt (V8 m)) (u₀ (F := F)) (sep_elim_left.trans (hu₀ (endsOf h))) (hmain h ρ) (fq (m := m)) hfin
    (fun r => (∀ d : Dev nD, ∀ b ∈ ucRefs τ sig, r.2.mem (d, b) = V8 m d b) ∧ r.2.sem = fun _ => 0) (fun _ hf hz => ⟨hf, hz⟩)

end Cert.Proof.K

end
-- ==== Proof.Keeps.lean ====
/-
  What no call of @main changes: the arguments, and so the ends of the edges; and that the precondition bounds those.
-/
module

public import proofs.«01_k».proof.Proof.Main
public import proofs.«01_k».proof.Pre_pre
public import Idealize.ShloMosaic.Lib.ReduceAll
public import Idealize.ShloMosaic.Lib.WordCmp

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation BodyObligationLoose ucRefs arrRef arrRefs afterRegion)
open Idealize.ShloMosaic.TcCoe

variable {F : FTy → Type} [FloatOps F]

local notation "𝕄" => MT nD τ sig (HIx 1) (Elt F) ℕ UU ℕ

/-- The host lines and calls of @main write these buffers and no other. -/
abbrev wrote : List (Ref sig .tc) :=
  outs0 ++ outs1 ++ outs2 ++ outs3 ++ [main_v4_0, main_v4_1, main_v9, main_v22_0, main_v22_1, main_v22_2, main_v26]

variable (m : (ℓ : Loc nD τ sig) → Buf (Elt F) ℓ) (d : Dev nD) {r : Ref sig .tc}

theorem V1_keep (h : r ∉ outs0) : V1 m d (Proc.devRef .tc r) = V0 m d (Proc.devRef .tc r) :=
  StableHlo.after_of_writes_sub ops0 _ (StableHlo.forall_writes_sub_of_map ops0_writes) h

theorem V3_keep (h : r ∉ outs1) : V3 m d (Proc.devRef .tc r) = V2 m d (Proc.devRef .tc r) :=
  StableHlo.after_of_writes_sub ops1 _ (StableHlo.forall_writes_sub_of_map ops1_writes) h

theorem V5_keep (h : r ∉ outs2) : V5 m d (Proc.devRef .tc r) = V4 m d (Proc.devRef .tc r) :=
  StableHlo.after_of_writes_sub ops2 _ (StableHlo.forall_writes_sub_of_map ops2_writes) h

theorem V7_keep (h : r ∉ outs3) : V7 m d (Proc.devRef .tc r) = V6 m d (Proc.devRef .tc r) :=
  StableHlo.after_of_writes_sub ops3 _ (StableHlo.forall_writes_sub_of_map ops3_writes) h

theorem V4_keep (h : r ≠ main_v9) : V4 m d (Proc.devRef .tc r) = V3 m d (Proc.devRef .tc r) :=
  Function.update_of_ne (fun e => h (Proc.devRef_injective _ e)) _ _

theorem out0 : ∀ w : Fin 12, (cfg0.win w).isOut = false ∨ arrRef spec0 w ∈ [main_v4_0, main_v4_1] := by decide
theorem out2 : ∀ w : Fin 18, (cfg2.win w).isOut = false ∨ arrRef spec2 w ∈ [main_v22_0, main_v22_1, main_v22_2] := by decide
theorem out3 : ∀ w : Fin 7, (cfg3.win w).isOut = false ∨ arrRef spec3 w ∈ [main_v26] := by decide

theorem V2_keep (h : r ∉ [main_v4_0, main_v4_1]) : V2 m d (Proc.devRef .tc r) = V1 m d (Proc.devRef .tc r) :=
  Pipeline.afterRegion_keeps (encDat 0 (low 0) (V1 m) d) (V1 m d) launch0.win.arr_inj (fun _ => rfl) r fun w e => (out0 w).resolve_right fun hm => h (e ▸ hm)

theorem V6_keep (h : r ∉ [main_v22_0, main_v22_1, main_v22_2]) : V6 m d (Proc.devRef .tc r) = V5 m d (Proc.devRef .tc r) :=
  Pipeline.afterRegion_keeps (msgDat 1 (low 1) (V5 m) d) (V5 m d) launch2.win.arr_inj (fun _ => rfl) r fun w e => (out2 w).resolve_right fun hm => h (e ▸ hm)

theorem V8_keep (h : r ∉ [main_v26]) : V8 m d (Proc.devRef .tc r) = V7 m d (Proc.devRef .tc r) :=
  Pipeline.afterRegion_keeps (pairDat 1 (low 1) (V7 m) d) (V7 m d) launch3.win.arr_inj (fun _ => rfl) r fun w e => (out3 w).resolve_right fun hm => h (e ▸ hm)

/-- A buffer that no line writes is at the end, and at every point between, as it was at the launch. -/
theorem V8_launch (h : r ∉ wrote) : V8 m d (Proc.devRef .tc r) = m (d, Proc.devRef .tc r) := by
  simp only [wrote, List.mem_append, not_or, List.mem_cons, List.not_mem_nil, or_false] at h
  refine (V8_keep m d ?_).trans ((V7_keep m d ?_).trans ((V6_keep m d ?_).trans ((V5_keep m d ?_).trans ((V4_keep m d ?_).trans
    ((V3_keep m d ?_).trans ((V2_keep m d ?_).trans (V1_keep m d ?_))))))) <;>
  simp only [List.mem_cons, List.not_mem_nil, or_false, not_or, ne_eq, h, not_false_eq_true, and_self]

theorem V2_launch (h : r ∉ outs0 ++ [main_v4_0, main_v4_1]) : V2 m d (Proc.devRef .tc r) = m (d, Proc.devRef .tc r) := by
  simp only [List.mem_append, not_or] at h
  exact (V2_keep m d h.2).trans (V1_keep m d h.1)

theorem V4_launch (h : r ∉ outs0 ++ outs1 ++ [main_v4_0, main_v4_1, main_v9]) : V4 m d (Proc.devRef .tc r) = m (d, Proc.devRef .tc r) := by
  simp only [List.mem_append, not_or, List.mem_cons, List.not_mem_nil, or_false] at h
  refine (V4_keep m d ?_).trans ((V3_keep m d ?_).trans (V2_launch m d ?_)) <;>
  simp only [List.mem_append, List.mem_cons, List.not_mem_nil, or_false, not_or, ne_eq, h, not_false_eq_true, and_self]

theorem V6_launch (h : r ∉ outs0 ++ outs1 ++ outs2 ++ [main_v4_0, main_v4_1, main_v9, main_v22_0, main_v22_1, main_v22_2]) :
    V6 m d (Proc.devRef .tc r) = m (d, Proc.devRef .tc r) := by
  simp only [List.mem_append, not_or, List.mem_cons, List.not_mem_nil, or_false] at h
  refine (V6_keep m d ?_).trans ((V5_keep m d ?_).trans (V4_launch m d ?_)) <;>
  simp only [List.mem_append, List.mem_cons, List.not_mem_nil, or_false, not_or, ne_eq, h, not_false_eq_true, and_self]

/-- The sources of the edges: the first row of the edge array. -/
theorem src_eq : V3 m d (Proc.devRef .tc main_v6) = shapeCast _ (extractStridedSlice S1x16384 ![0, 0] (m (d, Proc.devRef .tc main_arg2)) slices_S2x16384_S1x16384_0_0) shapeCasts_S1x16384_S16384 := by
  rw [← V2_launch m d (r := main_arg2) (by decide)]
  unfold V3
  generalize V2 m d = V
  rfl

/-- The targets of the edges: its second row. -/
theorem tgt_eq : V3 m d (Proc.devRef .tc main_v8) = shapeCast _ (extractStridedSlice S1x16384 ![1, 0] (m (d, Proc.devRef .tc main_arg2)) slices_S2x16384_S1x16384_1_0) shapeCasts_S1x16384_S16384 := by
  rw [← V2_launch m d (r := main_arg2) (by decide)]
  unfold V3
  generalize V2 m d = V
  rfl

/-- An edge array every word of which is below 256 has both its rows so. -/
theorem ends_ok (h : ∀ d (i : S2x16384.Idx), (m (d, Proc.devRef .tc main_arg2) i : BitVec 32).toNat < 256) : EndsOk m where
  src_lt d j := by rw [src_eq]; exact h d _
  tgt_lt d j := by rw [tgt_eq]; exact h d _

/-- The precondition's test of an edge array is that. -/
theorem lt_of_pre [Cert.Pre_pre.Facts] (x0 x1 x2 x3 x4 x5 x6 x7 x8 x9 x10 x11 x12 x13 x14 x15 x16 x17 x18 x19 x20 x21 x22)
    (h : Cert.Pre_pre.fn (F := F) x0 x1 x2 x3 x4 x5 x6 x7 x8 x9 x10 x11 x12 x13 x14 x15 x16 x17 x18 x19 x20 x21 x22 = fun _ => 1#1) (i : S2x16384.Idx) :
    (x2 i : BitVec 32).toNat < 256 := by
  have e := Host.reduce_andi_all (t := Cert.Pre_pre.S_) _ _ _ _ (fun k => k.elim0) (congrFun h fun k => k.elim0) i
  have e' : IntOp.andi (IntOp.cmpi .sge (x2 i : BitVec 32) 0#32) (IntOp.cmpi .slt (x2 i : BitVec 32) (BitVec.ofNat 32 256)) = 1#1 := e
  rwa [WordCmp.andi_sge_zero_slt_ofNat (by norm_num), WordCmp.ofBool_decide_eq_one_iff] at e'

end Cert.Proof.K

end
-- ==== Proof.Same.lean ====
/-
  The program read at machine words and the program read at ideal numbers have the same text, and so the same run.
-/
module

public import proofs.«01_k».proof.Proof.Setup
public import proofs.«01_k».proof.Defs
public import proofs.«01_k».proof.Proof.Gen.Kernel

@[expose] public section

noncomputable section

namespace Cert.Proof.K
open Idealize.ShloMosaic Idealize.SL.Sem

variable {F : FTy → Type} [FloatOps F]
attribute [local instance] Cert.Kernel.Gen.facts Cert.KernelIdeal.Gen.facts
set_option maxHeartbeats 4000000 in
/-- The kernels' bodies. -/
theorem bodies_same : Cert.Kernel.defs₀ (F := F) = Cert.KernelIdeal.defs₀ (F := F) := by
  funext p ℓ a
  cases p with
  | tc =>
    match ℓ, a with
    | 0, (t, s) => rfl
    | 1, _ => rfl
    | 2, (t, s) => rfl
    | 3, (t, s) => rfl
  | scScalar c =>
    match ℓ with
    | 0 => rfl
    | 1 => rfl
    | 2 => rfl
    | 3 => rfl
  | scVector c s =>
    match ℓ with
    | 0 => rfl
    | 1 => rfl
    | 2 => rfl
    | 3 => rfl

set_option maxHeartbeats 1000000 in
/-- The body tables. -/
theorem defs_same : Cert.Kernel.defs (F := F) = Cert.KernelIdeal.defs (F := F) :=
  congrArg (fun D => Cert.KernelIdeal.sc.defs (Pipeline.defs Cert.KernelIdeal.pcfgs D)) bodies_same

set_option maxHeartbeats 1000000 in
/-- @main. -/
theorem main_same : Cert.Kernel.main (F := F) = Cert.KernelIdeal.main (F := F) := rfl

set_option maxHeartbeats 1000000 in
/-- What the threads run. -/
theorem threads_same : Cert.Kernel.threads (F := F) = Cert.KernelIdeal.threads (F := F) :=
  congrArg (fun M => Cert.KernelIdeal.sc.threads M) main_same

set_option maxHeartbeats 1000000 in
/-- What holds of one program's run holds of the other's. -/
theorem run_same (st : MemSt Cert.Kernel.nD Cert.Kernel.τ Cert.Kernel.sig (Elt F)) (Q) (h : θ_run (Cert.KernelIdeal.defs (F := F)) (Cert.KernelIdeal.threads (F := F)) st Q) :
    θ_run (Cert.Kernel.defs (F := F)) (Cert.Kernel.threads (F := F)) st Q := by
  have h1 := defs_same (F := F)
  have h2 := threads_same (F := F)
  generalize Cert.Kernel.defs (F := F) = D at h1 ⊢
  generalize Cert.Kernel.threads (F := F) = T at h2 ⊢
  subst h1 h2
  exact h

end Cert.Proof.K

end
-- ==== Proof.Frames.lean ====
/-
  The frames: the program's run with the values dropped, and the reference's run likewise.
-/
module

public import proofs.«01_k».proof.Proof.Keeps
public import proofs.«01_k».proof.Proof.Same
public import proofs.«01_k».proof.Defs
public import proofs.«01_k».proof.Proof.Gen.Kernel
public import proofs.«01_k».proof.Proof.Gen.Pre_pre
public import proofs.«01_k».proof.Proof.Gen.ReferenceIdeal.Run

@[expose] public section

noncomputable section

namespace Cert.Proof.K

open Cert.KernelIdeal Cert.KernelIdeal.Gen
open Idealize.ShloMosaic Idealize.SL.Sem
open Idealize.ShloMosaic.Pipeline (ucRefs)

variable {F : FTy → Type} [FloatOps F]

/-- In a memory that holds `V8` an argument holds what it held at the launch. -/
theorem kept {m : (ℓ : Loc nD τ sig) → Buf (Elt F) ℓ} {s : (ℓ : Loc nD τ sig) → Buf (Elt F) ℓ} (h : ∀ d : Dev nD, ∀ b ∈ ucRefs τ sig, s (d, b) = V8 m d b)
    (c : Dev nD) {r : Ref sig .tc} (hr : r ∉ wrote) (hu : r.isScoped = false) :
    s ((c.tc : Thread nD τ).loc r) = m ((c.tc : Thread nD τ).loc r) :=
  (h c (Proc.devRef .tc r) (Finset.mem_filter.mpr ⟨StableHlo.devRef_mem_tcRefs _, by simpa using hu⟩)).trans (V8_launch m c hr)

/-- The arguments. -/
abbrev args : List (Ref sig .tc) :=
  [main_arg0, main_arg1, main_arg2, main_arg3, main_arg4, main_arg5, main_arg6, main_arg7, main_arg8, main_arg9, main_arg10, main_arg11,
   main_arg12, main_arg13, main_arg14, main_arg15, main_arg16, main_arg17, main_arg18, main_arg19, main_arg20, main_arg21, main_arg22]

theorem args_ok : ∀ r ∈ args, r ∉ wrote ∧ r.isScoped = false := by decide

/-- The run with the values dropped, for any floats. -/
theorem run_keeps [∀ e, Nonempty (Elt F e)] (m : (ℓ : Loc nD τ sig) → Buf (Elt F) ℓ) (ρ : Dev nD → PrngReg)
    (hx : ∀ d (i : S2x16384.Idx), (m (d, Proc.devRef .tc main_arg2) i : BitVec 32).toNat < 256) :
    θ_run (Cert.KernelIdeal.defs (F := F)) (Cert.KernelIdeal.threads (F := F)) ⟨m, fun _ => 0, ρ⟩
      fun r => (∀ c : Dev nD, args.Forall fun a => r.2.mem ((c.tc : Thread nD τ).loc a) = m ((c.tc : Thread nD τ).loc a)) ∧ r.2.sem = fun _ => 0 :=
  (θ_run Cert.KernelIdeal.defs _ _).mono
    (fun _ h => ⟨fun c => List.forall_iff_forall_mem.mpr fun a ha => kept h.1 c (args_ok a ha).1 (args_ok a ha).2, h.2⟩)
    (run_main (ends_ok m hx) ρ)

theorem frame_kernelIdeal : Cert.quiescent_KernelIdeal := fun m ρ hp =>
  run_keeps (F := Ideal) m ρ fun d i => lt_of_pre (F := Ideal) _ _ _ _ _ _ _ _ _ _ _ _ _ _ _ _ _ _ _ _ _ _ _ (hp d) i

theorem frame_kernel : Cert.quiescent_Kernel := fun m ρ hp =>
  run_same _ _ <| run_keeps (F := Bits) m ρ fun d i => lt_of_pre (F := Bits) _ _ _ _ _ _ _ _ _ _ _ _ _ _ _ _ _ _ _ _ _ _ _ (hp d) i

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.K

end
-- ==== Proof.Arrays.lean ====
/-
  The arrays the TensorCore calls leave, as their arithmetic on the whole arrays they read.
-/
module

public import proofs.«01_k».proof.Proof.Keeps
public import Idealize.ShloMosaic.Lib.Pipeline.ValueKit

@[expose] public section

set_option maxRecDepth 16384

noncomputable section

namespace Cert.Proof.K

open Cert.KernelIdeal Cert.KernelIdeal.Gen

open Idealize.ShloMosaic
open Idealize.ShloMosaic.Pipeline (Dat ucRefs arrRef arrRefs afterRegion)
open Idealize.ShloMosaic.TcCoe

variable {F : FTy → Type} [FloatOps F]

section
variable (V : Dev nD → Valuation τ sig (Elt F)) (d : Dev nD)

theorem idx0 : ∀ (w : Fin 12) a, (cfg0.win w).index t0_0 a = 0 := by decide +kernel

theorem idx2 : ∀ (w : Fin 18) a, (cfg2.win w).index t2_0 a = 0 := by decide +kernel

theorem idx3 : ∀ (w : Fin 7) (t : Fin cfg3.N), w ≠ 0 → w ≠ 6 → ∀ a, (cfg3.win w).index t a = 0 := by decide +kernel

/-! What the encoders' pipeline stages of each array is the array. -/

theorem enc_blk0 : encBlk V d 0 = V d (Proc.devRef .tc main_arg0) :=
  funext fun y => congrArg (V d (Proc.devRef .tc main_arg0)) (funext fun a => Fin.ext ((cfg0.win 0).rect_emb_val_of_index_zero t0_0 a (idx0 0 a) y))

theorem enc_blk1 : encBlk V d 1 = V d (Proc.devRef .tc main_arg3) :=
  funext fun y => congrArg (V d (Proc.devRef .tc main_arg3)) (funext fun a => Fin.ext ((cfg0.win 1).rect_emb_val_of_index_zero t0_0 a (idx0 1 a) y))

theorem enc_blk2 : encBlk V d 2 = V d (Proc.devRef .tc main_v0) :=
  funext fun y => congrArg (V d (Proc.devRef .tc main_v0)) (funext fun a => Fin.ext ((cfg0.win 2).rect_emb_val_of_index_zero t0_0 a (idx0 2 a) y))

theorem enc_blk3 : encBlk V d 3 = V d (Proc.devRef .tc main_arg5) :=
  funext fun y => congrArg (V d (Proc.devRef .tc main_arg5)) (funext fun a => Fin.ext ((cfg0.win 3).rect_emb_val_of_index_zero t0_0 a (idx0 3 a) y))

theorem enc_blk4 : encBlk V d 4 = V d (Proc.devRef .tc main_v1) :=
  funext fun y => congrArg (V d (Proc.devRef .tc main_v1)) (funext fun a => Fin.ext ((cfg0.win 4).rect_emb_val_of_index_zero t0_0 a (idx0 4 a) y))

theorem enc_blk5 : encBlk V d 5 = V d (Proc.devRef .tc main_arg1) :=
  funext fun y => congrArg (V d (Proc.devRef .tc main_arg1)) (funext fun a => Fin.ext ((cfg0.win 5).rect_emb_val_of_index_zero t0_0 a (idx0 5 a) y))

theorem enc_blk6 : encBlk V d 6 = V d (Proc.devRef .tc main_arg7) :=
  funext fun y => congrArg (V d (Proc.devRef .tc main_arg7)) (funext fun a => Fin.ext ((cfg0.win 6).rect_emb_val_of_index_zero t0_0 a (idx0 6 a) y))

theorem enc_blk7 : encBlk V d 7 = V d (Proc.devRef .tc main_v2) :=
  funext fun y => congrArg (V d (Proc.devRef .tc main_v2)) (funext fun a => Fin.ext ((cfg0.win 7).rect_emb_val_of_index_zero t0_0 a (idx0 7 a) y))

theorem enc_blk8 : encBlk V d 8 = V d (Proc.devRef .tc main_arg9) :=
  funext fun y => congrArg (V d (Proc.devRef .tc main_arg9)) (funext fun a => Fin.ext ((cfg0.win 8).rect_emb_val_of_index_zero t0_0 a (idx0 8 a) y))

theorem enc_blk9 : encBlk V d 9 = V d (Proc.devRef .tc main_v3) :=
  funext fun y => congrArg (V d (Proc.devRef .tc main_v3)) (funext fun a => Fin.ext ((cfg0.win 9).rect_emb_val_of_index_zero t0_0 a (idx0 9 a) y))

/-! What the message call's pipeline stages of each array is the array. -/

theorem msg_blk0 : msgBlk V d 0 = V d (Proc.devRef .tc main_v4_0) :=
  funext fun y => congrArg (V d (Proc.devRef .tc main_v4_0)) (funext fun a => Fin.ext ((cfg2.win 0).rect_emb_val_of_index_zero t2_0 a (idx2 0 a) y))

theorem msg_blk1 : msgBlk V d 1 = V d (Proc.devRef .tc main_v4_1) :=
  funext fun y => congrArg (V d (Proc.devRef .tc main_v4_1)) (funext fun a => Fin.ext ((cfg2.win 1).rect_emb_val_of_index_zero t2_0 a (idx2 1 a) y))

theorem msg_blk2 : msgBlk V d 2 = V d (Proc.devRef .tc main_v9) :=
  funext fun y => congrArg (V d (Proc.devRef .tc main_v9)) (funext fun a => Fin.ext ((cfg2.win 2).rect_emb_val_of_index_zero t2_0 a (idx2 2 a) y))

theorem msg_blk3 : msgBlk V d 3 = V d (Proc.devRef .tc main_v10) :=
  funext fun y => congrArg (V d (Proc.devRef .tc main_v10)) (funext fun a => Fin.ext ((cfg2.win 3).rect_emb_val_of_index_zero t2_0 a (idx2 3 a) y))

theorem msg_blk4 : msgBlk V d 4 = V d (Proc.devRef .tc main_v11) :=
  funext fun y => congrArg (V d (Proc.devRef .tc main_v11)) (funext fun a => Fin.ext ((cfg2.win 4).rect_emb_val_of_index_zero t2_0 a (idx2 4 a) y))

theorem msg_blk5 : msgBlk V d 5 = V d (Proc.devRef .tc main_v12) :=
  funext fun y => congrArg (V d (Proc.devRef .tc main_v12)) (funext fun a => Fin.ext ((cfg2.win 5).rect_emb_val_of_index_zero t2_0 a (idx2 5 a) y))

theorem msg_blk6 : msgBlk V d 6 = V d (Proc.devRef .tc main_v13) :=
  funext fun y => congrArg (V d (Proc.devRef .tc main_v13)) (funext fun a => Fin.ext ((cfg2.win 6).rect_emb_val_of_index_zero t2_0 a (idx2 6 a) y))

theorem msg_blk7 : msgBlk V d 7 = V d (Proc.devRef .tc main_v14) :=
  funext fun y => congrArg (V d (Proc.devRef .tc main_v14)) (funext fun a => Fin.ext ((cfg2.win 7).rect_emb_val_of_index_zero t2_0 a (idx2 7 a) y))

theorem msg_blk8 : msgBlk V d 8 = V d (Proc.devRef .tc main_v15) :=
  funext fun y => congrArg (V d (Proc.devRef .tc main_v15)) (funext fun a => Fin.ext ((cfg2.win 8).rect_emb_val_of_index_zero t2_0 a (idx2 8 a) y))

theorem msg_blk9 : msgBlk V d 9 = V d (Proc.devRef .tc main_v16) :=
  funext fun y => congrArg (V d (Proc.devRef .tc main_v16)) (funext fun a => Fin.ext ((cfg2.win 9).rect_emb_val_of_index_zero t2_0 a (idx2 9 a) y))

theorem msg_blk10 : msgBlk V d 10 = V d (Proc.devRef .tc main_v17) :=
  funext fun y => congrArg (V d (Proc.devRef .tc main_v17)) (funext fun a => Fin.ext ((cfg2.win 10).rect_emb_val_of_index_zero t2_0 a (idx2 10 a) y))

theorem msg_blk11 : msgBlk V d 11 = V d (Proc.devRef .tc main_v18) :=
  funext fun y => congrArg (V d (Proc.devRef .tc main_v18)) (funext fun a => Fin.ext ((cfg2.win 11).rect_emb_val_of_index_zero t2_0 a (idx2 11 a) y))

theorem msg_blk12 : msgBlk V d 12 = V d (Proc.devRef .tc main_v19) :=
  funext fun y => congrArg (V d (Proc.devRef .tc main_v19)) (funext fun a => Fin.ext ((cfg2.win 12).rect_emb_val_of_index_zero t2_0 a (idx2 12 a) y))

theorem msg_blk13 : msgBlk V d 13 = V d (Proc.devRef .tc main_v20) :=
  funext fun y => congrArg (V d (Proc.devRef .tc main_v20)) (funext fun a => Fin.ext ((cfg2.win 13).rect_emb_val_of_index_zero t2_0 a (idx2 13 a) y))

theorem msg_blk14 : msgBlk V d 14 = V d (Proc.devRef .tc main_v21) :=
  funext fun y => congrArg (V d (Proc.devRef .tc main_v21)) (funext fun a => Fin.ext ((cfg2.win 14).rect_emb_val_of_index_zero t2_0 a (idx2 14 a) y))

/-- The encoders' first result, on the whole arrays. -/
theorem enc_drugs (n b : ℕ) : (encDat n b V d).arrAt 10 cfg0.N
    = drugEnc (V d (Proc.devRef .tc main_arg0)) (V d (Proc.devRef .tc main_arg3)) (V d (Proc.devRef .tc main_v0)) (V d (Proc.devRef .tc main_arg5)) (V d (Proc.devRef .tc main_v1)) := by
  rw [← enc_blk0 V d, ← enc_blk1 V d, ← enc_blk2 V d, ← enc_blk3 V d, ← enc_blk4 V d]
  refine (encDat n b V d).arrAt_eq_of_after_last 10 t0_0 (by decide +kernel) _ fun j => ?_
  blk_simp
  rfl

/-- The encoders' second result, on the whole arrays. -/
theorem enc_targets (n b : ℕ) : (encDat n b V d).arrAt 11 cfg0.N
    = targetEnc (V d (Proc.devRef .tc main_arg1)) (V d (Proc.devRef .tc main_arg7)) (V d (Proc.devRef .tc main_v2)) (V d (Proc.devRef .tc main_arg9)) (V d (Proc.devRef .tc main_v3)) := by
  rw [← enc_blk5 V d, ← enc_blk6 V d, ← enc_blk7 V d, ← enc_blk8 V d, ← enc_blk9 V d]
  refine (encDat n b V d).arrAt_eq_of_after_last 11 t0_0 (by decide +kernel) _ fun j => ?_
  blk_simp
  rfl

/-- The drugs' new embeddings, on the whole arrays. -/
theorem drugsOf_eq : drugsOf V d
    = msgDrugs (V d (Proc.devRef .tc main_v4_0)) (V d (Proc.devRef .tc main_v4_1)) (V d (Proc.devRef .tc main_v9)) (V d (Proc.devRef .tc main_v10)) (V d (Proc.devRef .tc main_v11)) (V d (Proc.devRef .tc main_v12)) (V d (Proc.devRef .tc main_v13)) (V d (Proc.devRef .tc main_v14)) (V d (Proc.devRef .tc main_v15)) (V d (Proc.devRef .tc main_v16)) (V d (Proc.devRef .tc main_v17)) (V d (Proc.devRef .tc main_v18)) := by
  unfold drugsOf
  rw [msg_blk0, msg_blk1, msg_blk2, msg_blk3, msg_blk4, msg_blk5, msg_blk6, msg_blk7, msg_blk8, msg_blk9, msg_blk10, msg_blk11]

/-- The drugs' share of the pairs' first product. -/
theorem msg_drugs (n b : ℕ) : (msgDat n b V d).arrAt 16 cfg2.N
    = k2_pay44 (drugsOf V d) (V d (Proc.devRef .tc main_v19)) (V d (Proc.devRef .tc main_v21)) := by
  rw [← msg_blk12 V d, ← msg_blk14 V d]
  refine (msgDat n b V d).arrAt_eq_of_after_last 16 t2_0 (by decide +kernel) _ fun j => ?_
  blk_simp
  rfl

/-- The targets' share of the pairs' first product. -/
theorem msg_targets (n b : ℕ) : (msgDat n b V d).arrAt 17 cfg2.N
    = k2_pay45 (V d (Proc.devRef .tc main_v4_1)) (V d (Proc.devRef .tc main_v20)) := by
  rw [← msg_blk1 V d, ← msg_blk13 V d]
  refine (msgDat n b V d).arrAt_eq_of_after_last 17 t2_0 (by decide +kernel) _ fun j => ?_
  blk_simp
  rfl

end

end Cert.Proof.K

end
-- ==== Proof.PointsAt.lean ====
/-
  The TensorCore calls' arithmetic read at one index, over the extended reals.
-/
module

public import proofs.«01_k».proof.Proof.Layers
public import proofs.«01_k».proof.Proof.Region0
public import proofs.«01_k».proof.Proof.Region2
public import proofs.«01_k».proof.Proof.Region3
public import Idealize.ShloMosaic.Lib.Pointwise

@[expose] public section

set_option maxRecDepth 16384

noncomputable section

namespace Cert.Proof.K

open Cert.KernelIdeal Cert.KernelIdeal.Gen

open Idealize.ShloMosaic

/-- Two dense layers, each rectified: the encoders' arithmetic. -/
def encode {N K : ℕ} (x : Fin N → Fin K → EReal) (W : Fin K → Fin 256 → EReal) (b : Fin 256 → EReal) (W' : Fin 256 → Fin 256 → EReal)
    (b' : Fin 256 → EReal) (i : Fin N) (h : Fin 256) : EReal :=
  max (∑ k, max (∑ j, x i j * W j k + b k) 0 * W' k h + b' h) 0

/-- The drug encoder at a row and a column. -/
theorem drugEnc_at (x0 : Vec Ideal S512x1024 .f32) (x1 : Vec Ideal S1024x256 .f32) (x2 : Vec Ideal S1x256 .f32) (x3 : Vec Ideal S256x256 .f32)
    (x4 : Vec Ideal S1x256 .f32) (i : Fin 512) (h : Fin 256) :
    drugEnc x0 x1 x2 x3 x4 (ix2 i h) = encode (fun i j => x0 (ix2 i j)) (fun j k => x1 (ix2 j k)) (fun k => x2 (ix2 0 k)) (fun k h => x3 (ix2 k h))
      (fun h => x4 (ix2 0 h)) i h := by
  pointwise [drugEnc, k0_pay2, encode]

/-- The target encoder at a row and a column. -/
theorem targetEnc_at (x0 : Vec Ideal S256x512 .f32) (x1 : Vec Ideal S512x256 .f32) (x2 : Vec Ideal S1x256 .f32) (x3 : Vec Ideal S256x256 .f32)
    (x4 : Vec Ideal S1x256 .f32) (i : Fin 256) (h : Fin 256) :
    targetEnc x0 x1 x2 x3 x4 (ix2 i h) = encode (fun i j => x0 (ix2 i j)) (fun j k => x1 (ix2 j k)) (fun k => x2 (ix2 0 k)) (fun k h => x3 (ix2 k h))
      (fun h => x4 (ix2 0 h)) i h := by
  pointwise [targetEnc, k0_pay1, k0_pay3, encode]

set_option maxHeartbeats 1000000 in
/-- The table of counts at a source and a destination: the sum of the 32 parts there. -/
theorem table_at (x : Vec Ideal S2097152 .f32) (s d : Fin 256) :
    table x (ix2 s d) = ∑ w : Fin 32, x (ix1 ⟨65536 * w.val + (256 * s.val + d.val), by omega⟩) := by
  let G : ℕ → EReal := fun n => if h : n < 2097152 then x (ix1 ⟨n, h⟩) else 0
  have hG : ∀ (n : ℕ) (h : n < 2097152), x (ix1 ⟨n, h⟩) = G n := fun n h => by simp only [G, dif_pos h]
  simp only [hG, Fin.sum_univ_eq_sum_range (fun w => G (65536 * w + (256 * s.val + d.val)))]
  pointwise [table, k2_pay3, sum30, sum15, k2_pay1, k2_pay2, cut]
  simp only [hG, Finset.sum_range_succ, Finset.sum_range_zero, zero_add, Nat.reduceMul, Nat.zero_add, Nat.mul_comm s.val 256]

/-- A source's number of edges, at least one. -/
theorem degree_at (x : Vec Ideal S2097152 .f32) (s : Fin 256) (z : Fin 1) :
    degree x (ix2 s z) = max (∑ d : Fin 256, table x (ix2 s d)) 1 := by
  pointwise [degree, k2_pay4]

theorem tableB_at (x : Vec Ideal S2097152 .f32) (s d : Fin 256) : tableB x (ix2 s d) = table x (ix2 s d) := by
  pointwise [tableB, k2_pay6]

/-- A band at a row and a column. -/
theorem band_at (o : ℕ) (ho : S256x256.Slices ![o, 0] S32x256) (cb dp tp : FVec Ideal S256x256 .bf16) (r : Fin 32) (h : Fin 256) (i : Fin 256)
    (e : o + r.val = i.val) :
    band o ho cb dp tp (ix2 r h) = ∑ t, max (dp (ix2 i h) + tp (ix2 t h)) 0 * cb (ix2 i t) := by
  pointwise [band]
  simp only [e]

/-- One layer's update of a drug's embedding, from the table of counts and the two shares of the product. -/
theorem layer_at (n : FVec Ideal S256x1 .f32) (cb : FVec Ideal S256x256 .bf16) (d : FVec Ideal S256x256 .f32) (dp tp : FVec Ideal S256x256 .bf16)
    (i h : Fin 256) :
    layer n cb d dp tp (ix2 i h) = d (ix2 i h) + Ideal.div (∑ t, max (dp (ix2 i h) + tp (ix2 t h)) 0 * cb (ix2 i t)) (n (ix2 i 0)) := by
  have key : ∀ (o : ℕ) (ho : S256x256.Slices ![o, 0] S32x256) (r : Fin 32), o + r.val = i.val →
      band o ho cb dp tp (ix2 r h) = ∑ t, max (dp (ix2 i h) + tp (ix2 t h)) 0 * cb (ix2 i t) := fun o ho r e => band_at o ho cb dp tp r h i e
  pointwise [layer]
  congr 2
  split_ifs <;> exact key _ _ _ (by simp only; omega)

theorem drugPart_at (d w : FVec Ideal S256x256 .f32) (r : Fin 256) (h : Fin 256) :
    drugPart d w (ix2 r h) = ∑ k, d (ix2 r k) * w (ix2 k h) := by
  pointwise [drugPart]

theorem targetPart_at (d w : FVec Ideal S256x256 .f32) (b : Vec Ideal S1x256 .f32) (r : Fin 256) (h : Fin 256) :
    targetPart d w b (ix2 r h) = ∑ k, d (ix2 r k) * w (ix2 k h) + b (ix2 0 h) := by
  pointwise [targetPart, k2_pay8]

/-- The drugs' share of the pairs' first product, with its bias. -/
theorem pairDrugs_at (d : FVec Ideal S512x256 .f32) (w : FVec Ideal S256x256 .f32) (b : Vec Ideal S1x256 .f32) (r : Fin 512) (h : Fin 256) :
    k2_pay44 d w b (ix2 r h) = ∑ k, d (ix2 r k) * w (ix2 k h) + b (ix2 0 h) := by
  pointwise [k2_pay44]

/-- The targets' share of the pairs' first product. -/
theorem pairTargets_at (d w : FVec Ideal S256x256 .f32) (r : Fin 256) (h : Fin 256) :
    k2_pay45 d w (ix2 r h) = ∑ k, d (ix2 r k) * w (ix2 k h) := by
  pointwise [k2_pay45]

/-- The new embeddings' first 256 rows. -/
theorem newDrugs_top (top bot : Vec Ideal S256x256 .f32) (r h : Fin 256) : newDrugs top bot (ix2 ⟨r.val, by omega⟩ h) = top (ix2 r h) := by
  unfold newDrugs
  rw [View.canon_cons_of_not_mem _ _ (by
    rw [Rect.mem_set_unit]; intro hh; have := (hh 0).1; simp at this; have := r.isLt; omega)]
  have e : (ix2 ⟨r.val, by omega⟩ h : S512x256.Idx)
      = (Rect.unit (s := S512x256) ![0, 0] S256x256.size inb_S512x256_S256x256_0_0).emb (ix2 r h) := by
    funext a; fin_cases a <;> apply Fin.ext <;> simp
  rw [e]; exact View.canon_cons_emb _ _ _ _

/-- The new embeddings' rows from 256 on. -/
theorem newDrugs_bot (top bot : Vec Ideal S256x256 .f32) (r h : Fin 256) : newDrugs top bot (ix2 ⟨256 + r.val, by omega⟩ h) = bot (ix2 r h) := by
  unfold newDrugs
  have e : (ix2 ⟨256 + r.val, by omega⟩ h : S512x256.Idx)
      = (Rect.unit (s := S512x256) ![256, 0] S256x256.size inb_S512x256_S256x256_256_0).emb (ix2 r h) := by
    funext a; fin_cases a <;> apply Fin.ext <;> simp
  rw [e]; exact View.canon_cons_emb _ _ _ _

/-- The rows the layers change. -/
theorem topRows_at (x : Vec Ideal S512x256 .f32) (r h : Fin 256) : topRows x (ix2 r h) = x (ix2 ⟨r.val, by omega⟩ h) := by
  pointwise [topRows]

/-- The rows the layers keep. -/
theorem botRows_at (x : Vec Ideal S512x256 .f32) (r h : Fin 256) : k2_pay43 (botRows x) (ix2 r h) = x (ix2 ⟨256 + r.val, by omega⟩ h) := by
  pointwise [k2_pay43, botRows]

/-- A layer's step on the first 256 drugs: `x` the embeddings, `c` the table of counts, `n` the numbers of edges. -/
def step (c : Fin 256 → Fin 256 → EReal) (te : Fin 256 → Fin 256 → EReal) (A B : Fin 256 → Fin 256 → EReal) (b : Fin 256 → EReal)
    (x : Fin 256 → Fin 256 → EReal) (i h : Fin 256) : EReal :=
  x i h + Ideal.div (∑ t, max (∑ k, x i k * A k h + (∑ k, te t k * B k h + b h)) 0 * c i t) (max (∑ t, c i t) 1)

/-- A layer is that step. -/
theorem layer_step (x : Vec Ideal S2097152 .f32) (d te A B : Vec Ideal S256x256 .f32) (b : Vec Ideal S1x256 .f32) (i h : Fin 256) :
    layer (degree x) (tableB x) d (drugPart d A) (targetPart te B b) (ix2 i h)
      = step (fun i t => table x (ix2 i t)) (fun i k => te (ix2 i k)) (fun k h => A (ix2 k h)) (fun k h => B (ix2 k h)) (fun h => b (ix2 0 h))
          (fun i k => d (ix2 i k)) i h := by
  rw [layer_at, degree_at]
  simp only [drugPart_at, targetPart_at, tableB_at, step]

/-- The first 256 drugs' embeddings after the three layers: three steps. -/
theorem threeLayers_at (x : Vec Ideal S2097152 .f32) (d0 te a0 b0 : Vec Ideal S256x256 .f32) (c0 : Vec Ideal S1x256 .f32) (a1 b1 : Vec Ideal S256x256 .f32)
    (c1 : Vec Ideal S1x256 .f32) (a2 b2 : Vec Ideal S256x256 .f32) (c2 : Vec Ideal S1x256 .f32) (i h : Fin 256) :
    threeLayers x d0 te a0 b0 c0 a1 b1 c1 a2 b2 c2 (ix2 i h)
      = step (fun i t => table x (ix2 i t)) (fun i k => te (ix2 i k)) (fun k h => a2 (ix2 k h)) (fun k h => b2 (ix2 k h)) (fun h => c2 (ix2 0 h))
         (step (fun i t => table x (ix2 i t)) (fun i k => te (ix2 i k)) (fun k h => a1 (ix2 k h)) (fun k h => b1 (ix2 k h)) (fun h => c1 (ix2 0 h))
           (step (fun i t => table x (ix2 i t)) (fun i k => te (ix2 i k)) (fun k h => a0 (ix2 k h)) (fun k h => b0 (ix2 k h)) (fun h => c0 (ix2 0 h))
              (fun i k => d0 (ix2 i k)))) i h := by
  unfold threeLayers
  have e : ∀ i k, (k2_pay5 d0 : FVec Ideal S256x256 .f32) (ix2 i k) = d0 (ix2 i k) := by intro i k; pointwise [k2_pay5]
  simp only [layer_step, e]

/-- The pair's two last layers, from the first layer's two shares. -/
def score (a b : Fin 256 → EReal) (W : Fin 256 → Fin 64 → EReal) (c : Fin 64 → EReal) (w : Fin 64 → EReal) (c' : EReal) : EReal :=
  ∑ q, max (∑ k, max (a k + b k) 0 * W k q + c q) 0 * w q + c'

theorem pairScore_at (x0 : Vec Ideal S64x256 .f32) (x1 : Vec Ideal S256x256 .f32) (x2 : Vec Ideal S256x64 .f32) (x3 : Vec Ideal S1x64 .f32) (x4 : Vec Ideal S1x1x64 .f32)
    (x5 : Vec Ideal S1x1 .f32) (r : Fin 64) (h : Fin 256) : pairScore x0 x1 x2 x3 x4 x5 (ix2 r h)
      = score (fun k => x0 (ix2 r k)) (fun k => x1 (ix2 h k)) (fun k q => x2 (ix2 k q)) (fun q => x3 (ix2 0 q)) (fun q => x4 (ix3 0 0 q)) (x5 (ix2 0 0)) := by
  pointwise [pairScore, k3_pay1, score]

end Cert.Proof.K

end
-- ==== Proof.PairArray.lean ====
/-
  The array of scores: block by block of 64 drugs, each pair's score from the two shares of its first product.
-/
module

public import proofs.«01_k».proof.Proof.Arrays
public import proofs.«01_k».proof.Proof.PointsAt

@[expose] public section

set_option maxRecDepth 16384

noncomputable section

namespace Cert.Proof.K

open Cert.KernelIdeal Cert.KernelIdeal.Gen

open Idealize.ShloMosaic
open Idealize.ShloMosaic.Pipeline (Dat ucRefs arrRef arrRefs afterRegion)
open Idealize.ShloMosaic.TcCoe

variable (V : Dev nD → Valuation τ sig (Elt Ideal)) (d : Dev nD)

theorem idx3_0 : ∀ t : Fin cfg3.N, win3_0.index t = ![(grid3.coords t 0).val, 0] :=
  (by decide +kernel : ∀ t : Fin grid3.N, _)

theorem idx3_6 : ∀ t : Fin cfg3.N, win3_6.index t = ![(grid3.coords t 0).val, 0] :=
  (by decide +kernel : ∀ t : Fin grid3.N, _)

/-- A pair's score from the arrays the pairs' call reads. -/
def pairAt (a : Vec Ideal S512x256 .f32) (b : Vec Ideal S256x256 .f32) (W : Vec Ideal S256x64 .f32) (c : Vec Ideal S1x64 .f32)
    (w : Vec Ideal S1x1x64 .f32) (e : Vec Ideal S1x1 .f32) (x : S512x256.Idx) : EReal :=
  score (fun k => a (ix2 (x 0) k)) (fun k => b (ix2 (x 1) k)) (fun k q => W (ix2 k q)) (fun q => c (ix2 0 q)) (fun q => w (ix3 0 0 q)) (e (ix2 0 0))

/-- The array of scores after the pairs' call. -/
theorem pair_scores (n b : ℕ) : (pairDat n b V d).arrAt 6 cfg3.N
    = pairAt (V d (Proc.devRef .tc main_v22_1)) (V d (Proc.devRef .tc main_v22_2)) (V d (Proc.devRef .tc main_arg19)) (V d (Proc.devRef .tc main_v23))
        (V d (Proc.devRef .tc main_v25)) (V d (Proc.devRef .tc main_v24)) := by
  refine (pairDat n b V d).arrAt_eq_of_covers 6 _ (by decide +kernel) fun t hf y => ?_
  blk_simp
  have e1 : pairBlk V d 1 t = V d (Proc.devRef .tc main_v22_2) :=
    funext fun y => congrArg (V d (Proc.devRef .tc main_v22_2)) (funext fun a => Fin.ext ((cfg3.win 1).rect_emb_val_of_index_zero t a (idx3 1 t (by decide) (by decide) a) y))
  have e2 : pairBlk V d 2 t = V d (Proc.devRef .tc main_arg19) :=
    funext fun y => congrArg (V d (Proc.devRef .tc main_arg19)) (funext fun a => Fin.ext ((cfg3.win 2).rect_emb_val_of_index_zero t a (idx3 2 t (by decide) (by decide) a) y))
  have e3 : pairBlk V d 3 t = V d (Proc.devRef .tc main_v23) :=
    funext fun y => congrArg (V d (Proc.devRef .tc main_v23)) (funext fun a => Fin.ext ((cfg3.win 3).rect_emb_val_of_index_zero t a (idx3 3 t (by decide) (by decide) a) y))
  have e4 : pairBlk V d 4 t = V d (Proc.devRef .tc main_v25) :=
    funext fun y => congrArg (V d (Proc.devRef .tc main_v25)) (funext fun a => Fin.ext ((cfg3.win 4).rect_emb_val_of_index_zero t a (idx3 4 t (by decide) (by decide) a) y))
  have e5 : pairBlk V d 5 t = V d (Proc.devRef .tc main_v24) :=
    funext fun y => congrArg (V d (Proc.devRef .tc main_v24)) (funext fun a => Fin.ext ((cfg3.win 5).rect_emb_val_of_index_zero t a (idx3 5 t (by decide) (by decide) a) y))
  have e0 : ∀ k : Fin 256, pairBlk V d 0 t (ix2 (y 0) k) = V d (Proc.devRef .tc main_v22_1) (ix2 (((win3_6.blk t).view.emb y) 0) k) := fun k => by
    refine congrArg (V d (Proc.devRef .tc main_v22_1)) ?_
    blk_ext [idx3_0, idx3_6]
  have e6 : ((win3_6.blk t).view.emb y) 1 = y 1 := by
    apply Fin.ext
    blk_simp [idx3_6]
  refine ((congrArg (pairScore (pairBlk V d 0 t) (pairBlk V d 1 t) (pairBlk V d 2 t) (pairBlk V d 3 t) (pairBlk V d 4 t) (pairBlk V d 5 t))
    (eq_ix2 (show S64x256.Idx from y))).trans (pairScore_at _ _ _ _ _ _ (y 0) (y 1))).trans ?_
  rw [e1, e2, e3, e4, e5]
  unfold pairAt
  exact congr (congrFun (congrFun (congrFun (congr (congrArg score (funext e0)) (funext fun k =>
    congrArg (fun q : Fin 256 => V d (Proc.devRef .tc main_v22_2) (ix2 q k)) e6.symm)) _) _) _) rfl

end Cert.Proof.K

end
-- ==== Proof.CountsAt.lean ====
/-
  The table of counts over the extended reals: at a source and a destination, the number of edges between them.
-/
module

public import proofs.«01_k».proof.Proof.Counts
public import proofs.«01_k».proof.Proof.PointsAt

@[expose] public section

set_option maxRecDepth 16384

noncomputable section

namespace Cert.Proof.K

open Cert.KernelIdeal Cert.KernelIdeal.Gen

open Idealize.ShloMosaic

/-- After `n` words an entry holds how many of them named it. -/
theorem runs_at (w : ℕ → BitVec 32) (j : S65536.Idx) : ∀ n : ℕ,
    runs (F := Ideal) w n j = ∑ k ∈ Finset.range n, if (w k).toNat = (j 0).val then (1 : EReal) else 0
  | 0 => by rw [Finset.sum_range_zero]; exact Ideal.ofBits_zero_f32
  | n + 1 => by
    rw [Finset.sum_range_succ, ← runs_at w j n]
    show bump (runs w n) (w n) j = _
    unfold bump
    by_cases h : (j 0).val = (w n).toNat
    · rw [if_pos h, if_pos h.symm]
      exact congrArg (fun x : EReal => runs (F := Ideal) w n j + x) Ideal.ofBits_one_f32
    · rw [if_neg h, if_neg (Ne.symm h), add_zero]

/-- An edge's word: 256 times its source and its destination. -/
theorem edgeWord_toNat (fs ft : S16384.Idx → BitVec 32) (hs : ∀ j, (fs j).toNat < 256) (ht : ∀ j, (ft j).toNat < 256) (e : Fin 16384) :
    (edgeWord fs ft e.val).toNat = 256 * (fs (ix1 e)).toNat + (ft (ix1 e)).toNat := by
  have he : eIx e.val = (ix1 e : S16384.Idx) := by
    funext a; fin_cases a; apply Fin.ext; exact Nat.mod_eq_of_lt e.isLt
  unfold edgeWord
  rw [he]
  have h1 := hs (ix1 e); have h2 := ht (ix1 e)
  rw [BitVec.toNat_add, BitVec.toNat_mul]
  simp only [BitVec.toNat_ofNat, Nat.reducePow, Nat.reduceMod]
  omega

/-- The table of counts at a source and a destination: the number of edges between them. -/
theorem table_counts (fs ft : S16384.Idx → BitVec 32) (hs : ∀ j, (fs j).toNat < 256) (ht : ∀ j, (ft j).toNat < 256) (s d : Fin 256) :
    table (F := Ideal) (countsOf (F := Ideal) fs ft) (ix2 s d)
      = ∑ e : Fin 16384, if (fs (ix1 e)).toNat = s.val ∧ (ft (ix1 e)).toNat = d.val then (1 : EReal) else 0 := by
  rw [table_at]
  have hsum : ∀ f : Fin (32 * 512) → EReal, ∑ e, f e = ∑ w : Fin 32, ∑ k : Fin 512, f (finProdFinEquiv (w, k)) := fun f => by
    rw [← Fintype.sum_prod_type (fun p : Fin 32 × Fin 512 => f (finProdFinEquiv p))]
    exact (Equiv.sum_comp finProdFinEquiv f).symm
  refine Eq.trans (Finset.sum_congr rfl fun w _ => ?_) (hsum (fun e : Fin (32 * 512) =>
    if (fs (ix1 (e : Fin 16384))).toNat = s.val ∧ (ft (ix1 (e : Fin 16384))).toNat = d.val then (1 : EReal) else 0)).symm
  unfold countsOf
  rw [runs_at, Finset.sum_range]
  refine Finset.sum_congr rfl fun k _ => ?_
  have hw : (65536 * w.val + (256 * s.val + d.val)) / 65536 = w.val := by omega
  have hj : (65536 * w.val + (256 * s.val + d.val)) % 65536 = 256 * s.val + d.val := by omega
  have e1 : (finProdFinEquiv (w, k)).val = 512 * w.val + k.val := by
    simp only [finProdFinEquiv_apply_val]; omega
  have e2 := edgeWord_toNat fs ft hs ht (finProdFinEquiv (w, k))
  have h1 := hs (ix1 (finProdFinEquiv (w, k) : Fin 16384)); have h2 := ht (ix1 (finProdFinEquiv (w, k) : Fin 16384))
  rw [e1] at e2
  show (if (edgeWord fs ft (512 * ((65536 * w.val + (256 * s.val + d.val)) / 65536) + k.val)).toNat
      = (65536 * w.val + (256 * s.val + d.val)) % 65536 then (1 : EReal) else 0) = _
  rw [hw, hj, e2]
  refine if_congr ⟨fun h => ?_, fun h => ?_⟩ rfl rfl <;> omega

end Cert.Proof.K

end
-- ==== Proof.GraphSums.lean ====
/-
  The sums over edges and the sums over a table of counts: a layer that adds one message per edge is a layer that adds one
  message per target, times the number of edges.
-/
module

public import proofs.«01_k».proof.Proof.PointsAt

@[expose] public section

noncomputable section

namespace Cert.Proof.K

open Idealize.ShloMosaic

/-- A row of the upper half. -/
def lo (k : Fin 256) : Fin 512 := ⟨k.val, by omega⟩

/-- A row of the lower half. -/
def hi (k : Fin 256) : Fin 512 := ⟨256 + k.val, by omega⟩

/-- A factor goes into a sum of nonnegative terms. -/
theorem mul_sum_of_nonneg {ι : Type} (s : Finset ι) (f : ι → EReal) (h : ∀ i, 0 ≤ f i) (c : EReal) : c * ∑ i ∈ s, f i = ∑ i ∈ s, c * f i := by
  classical
  induction s using Finset.induction_on with
  | empty => simp
  | insert a s ha ih =>
    rw [Finset.sum_insert ha, Finset.sum_insert ha, EReal.left_distrib_of_nonneg (h a) (Finset.sum_nonneg fun i _ => h i), ih]

/-- The number of edges from `i` to `t`. -/
def count (s t : Fin 16384 → Fin 256) (i j : Fin 256) : EReal := ∑ e, if (s e).val = i.val ∧ (t e).val = j.val then 1 else 0

/-- A sum over targets, each taken as often as it has edges from `i`, is a sum over the edges from `i`. -/
theorem sum_count (s t : Fin 16384 → Fin 256) (i : Fin 256) (f : Fin 256 → EReal) :
    ∑ j, f j * count s t i j = ∑ e, if (s e).val = i.val then f (t e) else 0 := by
  unfold count
  have h0 : ∀ (j : Fin 256) (e : Fin 16384), (0 : EReal) ≤ if (s e).val = i.val ∧ (t e).val = j.val then 1 else 0 := fun j e => by
    split <;> simp
  simp only [mul_sum_of_nonneg _ _ (h0 _)]
  rw [Finset.sum_comm]
  refine Finset.sum_congr rfl fun e _ => ?_
  rw [Finset.sum_eq_single (t e)]
  · by_cases h : (s e).val = i.val <;> simp [h]
  · intro j _ hj
    rw [if_neg fun h => hj (Fin.ext h.2.symm), mul_zero]
  · intro h; exact absurd (Finset.mem_univ _) h

/-- The number of edges from `i`. -/
theorem count_sum (s t : Fin 16384 → Fin 256) (i : Fin 256) : ∑ j, count s t i j = ∑ e, if (s e).val = i.val then 1 else 0 := by
  have h := sum_count s t i fun _ => 1
  simpa only [one_mul] using h

/-- A layer that adds one message per edge, at a row and a column. -/
def edgeStep (s t : Fin 16384 → Fin 256) (te : Fin 256 → Fin 256 → EReal) (W : Fin 512 → Fin 256 → EReal) (b : Fin 256 → EReal)
    (x : Fin 512 → Fin 256 → EReal) (r : Fin 512) (h : Fin 256) : EReal :=
  x r h + Ideal.div (∑ e, if (s e).val = r.val then
      max (∑ k, x (lo (s e)) k * W (lo k) h + ∑ k, te (t e) k * W (hi k) h + b h) 0 else 0)
    (max 1 (∑ e, if (s e).val = r.val then 1 else 0))

/-- On the drugs that may have edges it is the step by the table of counts. -/
theorem edgeStep_lo (s t : Fin 16384 → Fin 256) (te : Fin 256 → Fin 256 → EReal) (W : Fin 512 → Fin 256 → EReal) (b : Fin 256 → EReal)
    (x : Fin 512 → Fin 256 → EReal) (i h : Fin 256) :
    edgeStep s t te W b x (lo i) h
      = step (count s t) te (fun k h => W (lo k) h) (fun k h => W (hi k) h) b (fun i => x (lo i)) i h := by
  unfold edgeStep step
  rw [sum_count s t i (fun t => max (∑ k, x (lo i) k * W (lo k) h + (∑ k, te t k * W (hi k) h + b h)) 0), count_sum, max_comm 1]
  have hm : ∀ e, (if (s e).val = (lo i).val then max (∑ k, x (lo (s e)) k * W (lo k) h + ∑ k, te (t e) k * W (hi k) h + b h) 0 else 0)
      = if (s e).val = i.val then max (∑ k, x (lo i) k * W (lo k) h + (∑ k, te (t e) k * W (hi k) h + b h)) 0 else 0 := fun e => by
    by_cases he : (s e).val = i.val
    · rw [if_pos he, if_pos (show (s e).val = (lo i).val from he), show s e = i from Fin.ext he, add_assoc]
    · rw [if_neg he, if_neg (show ¬(s e).val = (lo i).val from he)]
  simp only [hm]
  rfl

/-- The other drugs have no edges and keep their embeddings. -/
theorem edgeStep_hi (s t : Fin 16384 → Fin 256) (te : Fin 256 → Fin 256 → EReal) (W : Fin 512 → Fin 256 → EReal) (b : Fin 256 → EReal)
    (x : Fin 512 → Fin 256 → EReal) (i h : Fin 256) : edgeStep s t te W b x (hi i) h = x (hi i) h := by
  have hn : ∀ e, (s e).val ≠ (hi i).val := fun e he => by
    have h1 := (s e).isLt; have h2 : (hi i).val = 256 + i.val := rfl; omega
  unfold edgeStep
  simp only [if_neg (hn _), Finset.sum_const_zero]
  rw [max_eq_left (zero_le_one (α := EReal))]
  simp [Ideal.div]

/-- Three layers: the drugs that may have edges take three steps by the table of counts. -/
theorem threeSteps_lo (s t : Fin 16384 → Fin 256) (te : Fin 256 → Fin 256 → EReal) (W0 W1 W2 : Fin 512 → Fin 256 → EReal) (b0 b1 b2 : Fin 256 → EReal)
    (x : Fin 512 → Fin 256 → EReal) (i h : Fin 256) :
    edgeStep s t te W2 b2 (edgeStep s t te W1 b1 (edgeStep s t te W0 b0 x)) (lo i) h
      = step (count s t) te (fun k h => W2 (lo k) h) (fun k h => W2 (hi k) h) b2
          (step (count s t) te (fun k h => W1 (lo k) h) (fun k h => W1 (hi k) h) b1
            (step (count s t) te (fun k h => W0 (lo k) h) (fun k h => W0 (hi k) h) b0 (fun i => x (lo i)))) i h := by
  rw [edgeStep_lo]
  refine congrArg (fun f => step _ te _ _ b2 f i h) (funext fun i => funext fun h => ?_)
  rw [edgeStep_lo]
  exact congrArg (fun f => step _ te _ _ b1 f i h) (funext fun i => funext fun h => edgeStep_lo _ _ _ _ _ _ _ _)

/-- Three layers on the other drugs. -/
theorem threeSteps_hi (s t : Fin 16384 → Fin 256) (te : Fin 256 → Fin 256 → EReal) (W0 W1 W2 : Fin 512 → Fin 256 → EReal) (b0 b1 b2 : Fin 256 → EReal)
    (x : Fin 512 → Fin 256 → EReal) (i h : Fin 256) :
    edgeStep s t te W2 b2 (edgeStep s t te W1 b1 (edgeStep s t te W0 b0 x)) (hi i) h = x (hi i) h := by
  rw [edgeStep_hi, edgeStep_hi, edgeStep_hi]

/-- Three layers, then the pair's score: the result at a drug and a target, from the nodes' first embeddings. -/
def answer (s t : Fin 16384 → Fin 256) (D : Fin 512 → Fin 256 → EReal) (T : Fin 256 → Fin 256 → EReal) (W0 : Fin 512 → Fin 256 → EReal)
    (b0 : Fin 256 → EReal) (W1 : Fin 512 → Fin 256 → EReal) (b1 : Fin 256 → EReal) (W2 : Fin 512 → Fin 256 → EReal) (b2 : Fin 256 → EReal)
    (W : Fin 512 → Fin 256 → EReal) (b : Fin 256 → EReal) (W' : Fin 256 → Fin 64 → EReal) (b' w : Fin 64 → EReal) (e : EReal) (r : Fin 512) (h : Fin 256) : EReal :=
  score (fun k => ∑ q, edgeStep s t T W2 b2 (edgeStep s t T W1 b1 (edgeStep s t T W0 b0 D)) r q * W (lo q) k + b k) (fun k => ∑ q, T h q * W (hi q) k) W' b' w e

/-- A row of the drugs is in one half or the other. -/
theorem lo_or_hi (r : Fin 512) : (∃ i, r = lo i) ∨ ∃ i, r = hi i := by
  by_cases h : r.val < 256
  · exact .inl ⟨⟨r.val, h⟩, rfl⟩
  · exact .inr ⟨⟨r.val - 256, by omega⟩, Fin.ext (show r.val = 256 + (r.val - 256) by omega)⟩

end Cert.Proof.K

end
-- ==== Proof.KernelAt.lean ====
/-
  The kernel's result read at one index: each buffer between its calls, back to the arguments.
-/
module

public import proofs.«01_k».proof.Proof.PairArray
public import proofs.«01_k».proof.Proof.CountsAt
public import proofs.«01_k».proof.Proof.GraphSums
public import proofs.«01_k».proof.Proof.Keeps

@[expose] public section

set_option maxRecDepth 16384

noncomputable section

namespace Cert.Proof.K

open Cert.KernelIdeal Cert.KernelIdeal.Gen

open Idealize.ShloMosaic
open Idealize.ShloMosaic.Pipeline (Dat ucRefs arrRef arrRefs afterRegion afterRegion_arr)
open Idealize.ShloMosaic.TcCoe

variable (m : (ℓ : Loc nD τ sig) → Buf (Elt Ideal) ℓ) (d : Dev nD)

/-- A bias as a row. -/
theorem row_at (x : FVec Ideal S256 .f32) (z : Fin 1) (k : Fin 256) : shapeCast S1x256 x shapeCasts_S256_S1x256 (ix2 z k) = x (ix1 k) := by
  pointwise

/-- The upper half of a matrix. -/
theorem upper_at (x : FVec Ideal S512x256 .f32) (k h : Fin 256) :
    extractStridedSlice S256x256 ![0, 0] x slices_S512x256_S256x256_0_0 (ix2 k h) = x (ix2 (lo k) h) := by
  pointwise
  rfl

/-- The lower half of a matrix. -/
theorem lower_at (x : FVec Ideal S512x256 .f32) (k h : Fin 256) :
    extractStridedSlice S256x256 ![256, 0] x slices_S512x256_S256x256_256_0 (ix2 k h) = x (ix2 (hi k) h) := by
  pointwise
  rfl

/-- The encoders' biases may be replaced by equal ones. -/
theorem encode_congr {N K : ℕ} (x : Fin N → Fin K → EReal) (W : Fin K → Fin 256 → EReal) (W' : Fin 256 → Fin 256 → EReal) {b c b' c' : Fin 256 → EReal}
    (hb : ∀ k, b k = c k) (hb' : ∀ k, b' k = c' k) (i : Fin N) (h : Fin 256) : encode x W b W' b' i h = encode x W c W' c' i h := by
  rw [funext hb, funext hb']

/-- The sources of the edges, -/
def sources (hx : ∀ d i, ((m (d, Proc.devRef .tc main_arg2) : IVec S2x16384 32) i).toNat < 256) (e : Fin 16384) : Fin 256 := (fun e => ⟨((m (d, Proc.devRef .tc main_arg2) : IVec S2x16384 32) (ix2 0 e)).toNat, hx d _⟩) e

/-- and their targets. -/
def targets (hx : ∀ d i, ((m (d, Proc.devRef .tc main_arg2) : IVec S2x16384 32) i).toNat < 256) (e : Fin 16384) : Fin 256 := (fun e => ⟨((m (d, Proc.devRef .tc main_arg2) : IVec S2x16384 32) (ix2 1 e)).toNat, hx d _⟩) e

/-- The drugs' first embeddings, of the arguments. -/
def embDrugs : Fin 512 → Fin 256 → EReal := (encode (fun i j => (m (d, Proc.devRef .tc main_arg0) : FVec Ideal S512x1024 .f32) (ix2 i j)) (fun i j => (m (d, Proc.devRef .tc main_arg3) : FVec Ideal S1024x256 .f32) (ix2 i j)) (fun i => (m (d, Proc.devRef .tc main_arg4) : FVec Ideal S256 .f32) (ix1 i)) (fun i j => (m (d, Proc.devRef .tc main_arg5) : FVec Ideal S256x256 .f32) (ix2 i j)) (fun i => (m (d, Proc.devRef .tc main_arg6) : FVec Ideal S256 .f32) (ix1 i)))

/-- The targets' embeddings. -/
def embTargets : Fin 256 → Fin 256 → EReal := (encode (fun i j => (m (d, Proc.devRef .tc main_arg1) : FVec Ideal S256x512 .f32) (ix2 i j)) (fun i j => (m (d, Proc.devRef .tc main_arg7) : FVec Ideal S512x256 .f32) (ix2 i j)) (fun i => (m (d, Proc.devRef .tc main_arg8) : FVec Ideal S256 .f32) (ix1 i)) (fun i j => (m (d, Proc.devRef .tc main_arg9) : FVec Ideal S256x256 .f32) (ix2 i j)) (fun i => (m (d, Proc.devRef .tc main_arg10) : FVec Ideal S256 .f32) (ix1 i)))

/-- The drugs' first embeddings. -/
theorem firstDrugs_at (r : Fin 512) (h : Fin 256) : (V2 m d (Proc.devRef .tc main_v4_0) : FVec Ideal S512x256 .f32) (ix2 r h) = (embDrugs m d) r h := by
  have e : V2 m d (Proc.devRef .tc main_v4_0) = (encDat 0 (low 0) (V1 m) d).arrAt 10 cfg0.N := afterRegion_arr _ _ launch0.win.arr_inj 10
  rw [e, enc_drugs, drugEnc_at]
  have e0 : V1 m d (Proc.devRef .tc main_v0) = shapeCast S1x256 (m (d, Proc.devRef .tc main_arg4)) shapeCasts_S256_S1x256 := rfl
  have e1 : V1 m d (Proc.devRef .tc main_v1) = shapeCast S1x256 (m (d, Proc.devRef .tc main_arg6)) shapeCasts_S256_S1x256 := rfl
  rw [e0, e1, V1_keep m d (r := main_arg0) (by decide), V1_keep m d (r := main_arg3) (by decide), V1_keep m d (r := main_arg5) (by decide)]
  exact encode_congr _ _ _ (fun k => row_at _ 0 k) (fun k => row_at _ 0 k) r h

/-- The targets' embeddings. -/
theorem firstTargets_at (r : Fin 256) (h : Fin 256) : (V2 m d (Proc.devRef .tc main_v4_1) : FVec Ideal S256x256 .f32) (ix2 r h) = (embTargets m d) r h := by
  have e : V2 m d (Proc.devRef .tc main_v4_1) = (encDat 0 (low 0) (V1 m) d).arrAt 11 cfg0.N := afterRegion_arr _ _ launch0.win.arr_inj 11
  rw [e, enc_targets, targetEnc_at]
  have e0 : V1 m d (Proc.devRef .tc main_v2) = shapeCast S1x256 (m (d, Proc.devRef .tc main_arg8)) shapeCasts_S256_S1x256 := rfl
  have e1 : V1 m d (Proc.devRef .tc main_v3) = shapeCast S1x256 (m (d, Proc.devRef .tc main_arg10)) shapeCasts_S256_S1x256 := rfl
  rw [e0, e1, V1_keep m d (r := main_arg1) (by decide), V1_keep m d (r := main_arg7) (by decide), V1_keep m d (r := main_arg9) (by decide)]
  exact encode_congr _ _ _ (fun k => row_at _ 0 k) (fun k => row_at _ 0 k) r h

/-- Where the messages are called, a buffer that the host lines and the SparseCore do not write holds what the encoders left. -/
theorem V5_from_V2 {r : Ref sig .tc} (h1 : r ∉ outs1) (h2 : r ∉ outs2) (h3 : r ≠ main_v9) : V5 m d (Proc.devRef .tc r) = V2 m d (Proc.devRef .tc r) :=
  (V5_keep m d h2).trans ((V4_keep m d h3).trans (V3_keep m d h1))

/-- The source of an edge, as the SparseCore reads it. -/
theorem source_at (e : Fin 16384) : (V3 m d (Proc.devRef .tc main_v6) : IVec S16384 32) (ix1 e) = (m (d, Proc.devRef .tc main_arg2) : IVec S2x16384 32) (ix2 0 e) := by
  rw [src_eq]
  pointwise

/-- Its target. -/
theorem target_at (e : Fin 16384) : (V3 m d (Proc.devRef .tc main_v8) : IVec S16384 32) (ix1 e) = (m (d, Proc.devRef .tc main_arg2) : IVec S2x16384 32) (ix2 1 e) := by
  rw [tgt_eq]
  pointwise

/-- The table of counts the message call makes of the SparseCore's result. -/
theorem counts_at (hx : ∀ d i, ((m (d, Proc.devRef .tc main_arg2) : IVec S2x16384 32) i).toNat < 256) (i j : Fin 256) :
    table (F := Ideal) (V5 m d (Proc.devRef .tc main_v9)) (ix2 i j) = count (sources m d hx) (targets m d hx) i j := by
  have e : V5 m d (Proc.devRef .tc main_v9) = countsOf (F := Ideal) (V3 m d (Proc.devRef .tc main_v6)) (V3 m d (Proc.devRef .tc main_v8)) :=
    (V5_keep m d (by decide)).trans (Function.update_self _ _ _)
  rw [e, table_counts _ _ ((ends_ok m hx).src_lt d) ((ends_ok m hx).tgt_lt d)]
  refine Finset.sum_congr rfl fun e _ => if_congr (and_congr ?_ ?_) rfl rfl
  · have h : ((V3 m d (Proc.devRef .tc main_v6) : IVec S16384 32) (ix1 e)).toNat = ((m (d, Proc.devRef .tc main_arg2) : IVec S2x16384 32) (ix2 0 e)).toNat := by rw [source_at]
    exact iff_of_eq (congrArg (· = i.val) h)
  · have h : ((V3 m d (Proc.devRef .tc main_v8) : IVec S16384 32) (ix1 e)).toNat = ((m (d, Proc.devRef .tc main_arg2) : IVec S2x16384 32) (ix2 1 e)).toNat := by rw [target_at]
    exact iff_of_eq (congrArg (· = j.val) h)

/-! The message call's weights: halves of the layers' matrices, and the biases as rows. -/

theorem v10_eq : V5 m d (Proc.devRef .tc main_v10) = extractStridedSlice S256x256 ![0, 0] (m (d, Proc.devRef .tc main_arg11)) slices_S512x256_S256x256_0_0 := by
  rw [← V4_launch m d (r := main_arg11) (by decide)]; unfold V5; generalize V4 m d = V; rfl

theorem v11_eq : V5 m d (Proc.devRef .tc main_v11) = extractStridedSlice S256x256 ![256, 0] (m (d, Proc.devRef .tc main_arg11)) slices_S512x256_S256x256_256_0 := by
  rw [← V4_launch m d (r := main_arg11) (by decide)]; unfold V5; generalize V4 m d = V; rfl

theorem v12_eq : V5 m d (Proc.devRef .tc main_v12) = shapeCast S1x256 (m (d, Proc.devRef .tc main_arg12)) shapeCasts_S256_S1x256 := by
  rw [← V4_launch m d (r := main_arg12) (by decide)]; unfold V5; generalize V4 m d = V; rfl

theorem v13_eq : V5 m d (Proc.devRef .tc main_v13) = extractStridedSlice S256x256 ![0, 0] (m (d, Proc.devRef .tc main_arg13)) slices_S512x256_S256x256_0_0 := by
  rw [← V4_launch m d (r := main_arg13) (by decide)]; unfold V5; generalize V4 m d = V; rfl

theorem v14_eq : V5 m d (Proc.devRef .tc main_v14) = extractStridedSlice S256x256 ![256, 0] (m (d, Proc.devRef .tc main_arg13)) slices_S512x256_S256x256_256_0 := by
  rw [← V4_launch m d (r := main_arg13) (by decide)]; unfold V5; generalize V4 m d = V; rfl

theorem v15_eq : V5 m d (Proc.devRef .tc main_v15) = shapeCast S1x256 (m (d, Proc.devRef .tc main_arg14)) shapeCasts_S256_S1x256 := by
  rw [← V4_launch m d (r := main_arg14) (by decide)]; unfold V5; generalize V4 m d = V; rfl

theorem v16_eq : V5 m d (Proc.devRef .tc main_v16) = extractStridedSlice S256x256 ![0, 0] (m (d, Proc.devRef .tc main_arg15)) slices_S512x256_S256x256_0_0 := by
  rw [← V4_launch m d (r := main_arg15) (by decide)]; unfold V5; generalize V4 m d = V; rfl

theorem v17_eq : V5 m d (Proc.devRef .tc main_v17) = extractStridedSlice S256x256 ![256, 0] (m (d, Proc.devRef .tc main_arg15)) slices_S512x256_S256x256_256_0 := by
  rw [← V4_launch m d (r := main_arg15) (by decide)]; unfold V5; generalize V4 m d = V; rfl

theorem v18_eq : V5 m d (Proc.devRef .tc main_v18) = shapeCast S1x256 (m (d, Proc.devRef .tc main_arg16)) shapeCasts_S256_S1x256 := by
  rw [← V4_launch m d (r := main_arg16) (by decide)]; unfold V5; generalize V4 m d = V; rfl

theorem v19_eq : V5 m d (Proc.devRef .tc main_v19) = extractStridedSlice S256x256 ![0, 0] (m (d, Proc.devRef .tc main_arg17)) slices_S512x256_S256x256_0_0 := by
  rw [← V4_launch m d (r := main_arg17) (by decide)]; unfold V5; generalize V4 m d = V; rfl

theorem v20_eq : V5 m d (Proc.devRef .tc main_v20) = extractStridedSlice S256x256 ![256, 0] (m (d, Proc.devRef .tc main_arg17)) slices_S512x256_S256x256_256_0 := by
  rw [← V4_launch m d (r := main_arg17) (by decide)]; unfold V5; generalize V4 m d = V; rfl

theorem v21_eq : V5 m d (Proc.devRef .tc main_v21) = shapeCast S1x256 (m (d, Proc.devRef .tc main_arg18)) shapeCasts_S256_S1x256 := by
  rw [← V4_launch m d (r := main_arg18) (by decide)]; unfold V5; generalize V4 m d = V; rfl

/-- The drugs' embeddings after the three layers, from what the call's arrays hold. -/
theorem msgDrugs_at (x0 : Vec Ideal S512x256 .f32) (x1 : Vec Ideal S256x256 .f32) (x2 : Vec Ideal S2097152 .f32) (a0 a1 : Vec Ideal S256x256 .f32)
    (a2 : Vec Ideal S1x256 .f32) (a3 a4 : Vec Ideal S256x256 .f32) (a5 : Vec Ideal S1x256 .f32) (a6 a7 : Vec Ideal S256x256 .f32) (a8 : Vec Ideal S1x256 .f32)
    {s t : Fin 16384 → Fin 256} {D : Fin 512 → Fin 256 → EReal} {T : Fin 256 → Fin 256 → EReal} {U0 U1 U2 : Fin 512 → Fin 256 → EReal} {c0 c1 c2 : Fin 256 → EReal}
    (h0 : ∀ i k, x0 (ix2 i k) = D i k) (h1 : ∀ i k, x1 (ix2 i k) = T i k) (h2 : ∀ i j, table x2 (ix2 i j) = count s t i j)
    (g0 : ∀ k h, a0 (ix2 k h) = U0 (lo k) h) (g1 : ∀ k h, a1 (ix2 k h) = U0 (hi k) h) (g2 : ∀ z h, a2 (ix2 z h) = c0 h)
    (g3 : ∀ k h, a3 (ix2 k h) = U1 (lo k) h) (g4 : ∀ k h, a4 (ix2 k h) = U1 (hi k) h) (g5 : ∀ z h, a5 (ix2 z h) = c1 h)
    (g6 : ∀ k h, a6 (ix2 k h) = U2 (lo k) h) (g7 : ∀ k h, a7 (ix2 k h) = U2 (hi k) h) (g8 : ∀ z h, a8 (ix2 z h) = c2 h) (r : Fin 512) (h : Fin 256) :
    msgDrugs x0 x1 x2 a0 a1 a2 a3 a4 a5 a6 a7 a8 (ix2 r h) = edgeStep s t T U2 c2 (edgeStep s t T U1 c1 (edgeStep s t T U0 c0 D)) r h := by
  rcases lo_or_hi r with ⟨i, rfl⟩ | ⟨i, rfl⟩
  · rw [threeSteps_lo]
    refine (newDrugs_top _ _ i h).trans ((threeLayers_at _ _ _ _ _ _ _ _ _ _ _ _ i h).trans ?_)
    rw [show (fun i k => topRows x0 (ix2 i k)) = fun i => D (lo i) from funext fun i => funext fun k => (topRows_at x0 i k).trans (h0 _ _)]
    simp only [h1, h2, g0, g1, g2, g3, g4, g5, g6, g7, g8]
  · rw [threeSteps_hi]
    exact (newDrugs_bot _ _ i h).trans ((botRows_at _ i h).trans (h0 _ _))

/-- The drugs' embeddings after the three layers. -/
theorem drugsOf_at (hx : ∀ d i, ((m (d, Proc.devRef .tc main_arg2) : IVec S2x16384 32) i).toNat < 256) (r : Fin 512) (h : Fin 256) : drugsOf (V5 m) d (ix2 r h) = edgeStep (sources m d hx) (targets m d hx) (embTargets m d) (fun i j => (m (d, Proc.devRef .tc main_arg15) : FVec Ideal S512x256 .f32) (ix2 i j)) (fun i => (m (d, Proc.devRef .tc main_arg16) : FVec Ideal S256 .f32) (ix1 i)) (edgeStep (sources m d hx) (targets m d hx) (embTargets m d) (fun i j => (m (d, Proc.devRef .tc main_arg13) : FVec Ideal S512x256 .f32) (ix2 i j)) (fun i => (m (d, Proc.devRef .tc main_arg14) : FVec Ideal S256 .f32) (ix1 i)) (edgeStep (sources m d hx) (targets m d hx) (embTargets m d) (fun i j => (m (d, Proc.devRef .tc main_arg11) : FVec Ideal S512x256 .f32) (ix2 i j)) (fun i => (m (d, Proc.devRef .tc main_arg12) : FVec Ideal S256 .f32) (ix1 i)) (embDrugs m d))) r h := by
  rw [drugsOf_eq, v10_eq, v11_eq, v12_eq, v13_eq, v14_eq, v15_eq, v16_eq, v17_eq, v18_eq,
    V5_from_V2 m d (r := main_v4_0) (by decide) (by decide) (by decide), V5_from_V2 m d (r := main_v4_1) (by decide) (by decide) (by decide)]
  exact msgDrugs_at _ _ _ _ _ _ _ _ _ _ _ _ (firstDrugs_at m d) (firstTargets_at m d) (counts_at m d hx) (upper_at _) (lower_at _) (row_at _)
    (upper_at _) (lower_at _) (row_at _) (upper_at _) (lower_at _) (row_at _) r h

/-- The pairs' call's bias of the second layer, -/
theorem v23_eq : V7 m d (Proc.devRef .tc main_v23) = shapeCast S1x64 (m (d, Proc.devRef .tc main_arg20)) shapeCasts_S64_S1x64 := by
  rw [← V6_launch m d (r := main_arg20) (by decide)]; unfold V7; generalize V6 m d = V; rfl

/-- of the last, -/
theorem v24_eq : V7 m d (Proc.devRef .tc main_v24) = shapeCast S1x1 (m (d, Proc.devRef .tc main_arg22)) shapeCasts_S1_S1x1 := by
  rw [← V6_launch m d (r := main_arg22) (by decide)]; unfold V7; generalize V6 m d = V; rfl

/-- and the last layer's weights. -/
theorem v25_eq : V7 m d (Proc.devRef .tc main_v25) = shapeCast S1x1x64 (m (d, Proc.devRef .tc main_arg21)) shapeCasts_S64x1_S1x1x64 := by
  rw [← V6_launch m d (r := main_arg21) (by decide)]; unfold V7; generalize V6 m d = V; rfl

/-- The bias of the second layer at a place. -/
theorem bias64_at (x : FVec Ideal S64 .f32) (z : Fin 1) (q : Fin 64) : shapeCast S1x64 x shapeCasts_S64_S1x64 (ix2 z q) = x (ix1 q) := by
  pointwise

/-- The bias of the last layer. -/
theorem bias1_at (x : FVec Ideal S1 .f32) : shapeCast S1x1 x shapeCasts_S1_S1x1 (ix2 0 0) = x (ix1 0) := by
  pointwise

/-- The last layer's weights at a place. -/
theorem last_at (x : FVec Ideal S64x1 .f32) (q : Fin 64) : shapeCast S1x1x64 x shapeCasts_S64x1_S1x1x64 (ix3 0 0 q) = x (ix2 q 0) := by
  pointwise

/-- The drugs' share of the pairs' first product, from what the call's arrays hold. -/
theorem shareDrugs_at (x : FVec Ideal S512x256 .f32) (w : FVec Ideal S256x256 .f32) (b : Vec Ideal S1x256 .f32) {D : Fin 512 → Fin 256 → EReal}
    {U : Fin 256 → Fin 256 → EReal} {c : Fin 256 → EReal} (h0 : ∀ i k, x (ix2 i k) = D i k) (h1 : ∀ k h, w (ix2 k h) = U k h) (h2 : ∀ z h, b (ix2 z h) = c h)
    (r : Fin 512) (k : Fin 256) : k2_pay44 (F := Ideal) x w b (ix2 r k) = ∑ q, D r q * U q k + c k := by
  rw [pairDrugs_at]
  simp only [h0, h1, h2]

/-- The targets' share. -/
theorem shareTargets_at (x w : FVec Ideal S256x256 .f32) {T U : Fin 256 → Fin 256 → EReal} (h0 : ∀ i k, x (ix2 i k) = T i k)
    (h1 : ∀ k h, w (ix2 k h) = U k h) (r k : Fin 256) : k2_pay45 (F := Ideal) x w (ix2 r k) = ∑ q, T r q * U q k := by
  rw [pairTargets_at]
  simp only [h0, h1]

/-- A score, from what the call's arrays hold. -/
theorem scores_at (a : Vec Ideal S512x256 .f32) (b : Vec Ideal S256x256 .f32) (W : Vec Ideal S256x64 .f32) (c : Vec Ideal S1x64 .f32)
    (w : Vec Ideal S1x1x64 .f32) (e : Vec Ideal S1x1 .f32) {f : Fin 512 → Fin 256 → EReal} {g : Fin 256 → Fin 256 → EReal} {c' w' : Fin 64 → EReal} {e' : EReal}
    (h0 : ∀ i k, a (ix2 i k) = f i k) (h1 : ∀ i k, b (ix2 i k) = g i k) (h2 : ∀ z q, c (ix2 z q) = c' q) (h3 : ∀ q, w (ix3 0 0 q) = w' q)
    (h4 : e (ix2 0 0) = e') (r : Fin 512) (h : Fin 256) :
    pairAt a b W c w e (ix2 r h) = score (f r) (g h) (fun k q => W (ix2 k q)) c' w' e' := by
  show score (fun k => a (ix2 r k)) (fun k => b (ix2 h k)) _ _ _ _ = _
  simp only [h0, h1, h2, h3, h4]

/-- The drugs' share of the pairs' first product where the pairs are called. -/
theorem drugShare_at (hx : ∀ d i, ((m (d, Proc.devRef .tc main_arg2) : IVec S2x16384 32) i).toNat < 256) (r : Fin 512) (k : Fin 256) : (V7 m d (Proc.devRef .tc main_v22_1) : FVec Ideal S512x256 .f32) (ix2 r k)
    = ∑ q, edgeStep (sources m d hx) (targets m d hx) (embTargets m d) (fun i j => (m (d, Proc.devRef .tc main_arg15) : FVec Ideal S512x256 .f32) (ix2 i j)) (fun i => (m (d, Proc.devRef .tc main_arg16) : FVec Ideal S256 .f32) (ix1 i)) (edgeStep (sources m d hx) (targets m d hx) (embTargets m d) (fun i j => (m (d, Proc.devRef .tc main_arg13) : FVec Ideal S512x256 .f32) (ix2 i j)) (fun i => (m (d, Proc.devRef .tc main_arg14) : FVec Ideal S256 .f32) (ix1 i)) (edgeStep (sources m d hx) (targets m d hx) (embTargets m d) (fun i j => (m (d, Proc.devRef .tc main_arg11) : FVec Ideal S512x256 .f32) (ix2 i j)) (fun i => (m (d, Proc.devRef .tc main_arg12) : FVec Ideal S256 .f32) (ix1 i)) (embDrugs m d))) r q * (m (d, Proc.devRef .tc main_arg17) : FVec Ideal S512x256 .f32) (ix2 (lo q) k) + (m (d, Proc.devRef .tc main_arg18) : FVec Ideal S256 .f32) (ix1 k) := by
  have e : V7 m d (Proc.devRef .tc main_v22_1) = (msgDat 1 (low 1) (V5 m) d).arrAt 16 cfg2.N :=
    (V7_keep m d (by decide)).trans (afterRegion_arr _ _ launch2.win.arr_inj 16)
  rw [e, msg_drugs, v19_eq, v21_eq]
  exact shareDrugs_at _ _ _ (U := fun q k => (m (d, Proc.devRef .tc main_arg17) : FVec Ideal S512x256 .f32) (ix2 (lo q) k)) (drugsOf_at m d hx) (upper_at _) (row_at _) r k

/-- The targets' share. -/
theorem targetShare_at (r k : Fin 256) : (V7 m d (Proc.devRef .tc main_v22_2) : FVec Ideal S256x256 .f32) (ix2 r k) = ∑ q, (embTargets m d) r q * (m (d, Proc.devRef .tc main_arg17) : FVec Ideal S512x256 .f32) (ix2 (hi q) k) := by
  have e : V7 m d (Proc.devRef .tc main_v22_2) = (msgDat 1 (low 1) (V5 m) d).arrAt 17 cfg2.N :=
    (V7_keep m d (by decide)).trans (afterRegion_arr _ _ launch2.win.arr_inj 17)
  rw [e, msg_targets, v20_eq, V5_from_V2 m d (r := main_v4_1) (by decide) (by decide) (by decide)]
  exact shareTargets_at _ _ (U := fun q k => (m (d, Proc.devRef .tc main_arg17) : FVec Ideal S512x256 .f32) (ix2 (hi q) k)) (firstTargets_at m d) (lower_at _) r k

/-- The kernel's result at a drug and a target. -/
theorem result_at (hx : ∀ d i, ((m (d, Proc.devRef .tc main_arg2) : IVec S2x16384 32) i).toNat < 256) (r : Fin 512) (h : Fin 256) : (V8 m d (Proc.devRef .tc main_v26) : FVec Ideal S512x256 .f32) (ix2 r h)
    = answer (sources m d hx) (targets m d hx)
      (embDrugs m d)
      (embTargets m d)
      (fun i j => (m (d, Proc.devRef .tc main_arg11) : FVec Ideal S512x256 .f32) (ix2 i j)) (fun i => (m (d, Proc.devRef .tc main_arg12) : FVec Ideal S256 .f32) (ix1 i)) (fun i j => (m (d, Proc.devRef .tc main_arg13) : FVec Ideal S512x256 .f32) (ix2 i j)) (fun i => (m (d, Proc.devRef .tc main_arg14) : FVec Ideal S256 .f32) (ix1 i)) (fun i j => (m (d, Proc.devRef .tc main_arg15) : FVec Ideal S512x256 .f32) (ix2 i j)) (fun i => (m (d, Proc.devRef .tc main_arg16) : FVec Ideal S256 .f32) (ix1 i))
      (fun i j => (m (d, Proc.devRef .tc main_arg17) : FVec Ideal S512x256 .f32) (ix2 i j)) (fun i => (m (d, Proc.devRef .tc main_arg18) : FVec Ideal S256 .f32) (ix1 i))
      (fun i j => (m (d, Proc.devRef .tc main_arg19) : FVec Ideal S256x64 .f32) (ix2 i j)) (fun i => (m (d, Proc.devRef .tc main_arg20) : FVec Ideal S64 .f32) (ix1 i)) (fun i => (m (d, Proc.devRef .tc main_arg21) : FVec Ideal S64x1 .f32) (ix2 i 0)) ((m (d, Proc.devRef .tc main_arg22) : FVec Ideal S1 .f32) (ix1 0)) r h := by
  have e : V8 m d (Proc.devRef .tc main_v26) = (pairDat 1 (low 1) (V7 m) d).arrAt 6 cfg3.N := afterRegion_arr _ _ launch3.win.arr_inj 6
  have e19 : V7 m d (Proc.devRef .tc main_arg19) = m (d, Proc.devRef .tc main_arg19) := (V7_keep m d (by decide)).trans (V6_launch m d (by decide))
  rw [e, pair_scores, v23_eq, v24_eq, v25_eq, e19]
  exact scores_at _ _ _ _ _ _ (drugShare_at m d hx) (targetShare_at m d) (bias64_at _) (last_at _) (bias1_at _) r h

end Cert.Proof.K

end
-- ==== Proof.Rows.lean ====
/-
  Taking rows of a matrix by an index column, and adding rows into a matrix at an index column, read at one index.
-/
module

public import Idealize.ShloMosaic.Lib.Pointwise
public import Idealize.ShloMosaic.Lib.Routing.OpsPair

@[expose] public section

noncomputable section

namespace Cert.Proof.K

open Idealize.ShloMosaic

section Take

/-- The dimension numbers of a row gather: operand `[N, C]`, an index column `[E, 1]`, result `[E, C]`. -/
abbrev rowTake (N C E : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row gather at an entry: the operand's row that the index names, kept inside the operand. -/
theorem rowTake_at {α : Type} {N C E w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (h : Fin C) :
    Host.gather (rowTake N C E wf) x idx (ix2 e h) = x (ix2 ⟨min (idx (ix2 e 0)).toInt.toNat (N - 1), by omega⟩ h) := by
  unfold Host.gather
  congr 1
  funext a
  refine Fin.ext ?_
  show (rowTake N C E wf).start (ix2 e h) idx a + (rowTake N C E wf).batchCoord (ix2 e h) a + (rowTake N C E wf).offCoord (ix2 e h) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTake N C E wf).startIndexMap from List.mem_singleton.mpr rfl)]
    have hsi : (rowTake N C E wf).siIdx (ix2 e h) ⟨List.idxOf (0 : Fin 2) (rowTake N C E wf).startIndexMap,
        List.idxOf_lt_length_iff.2 (List.mem_singleton.mpr rfl)⟩ = ix2 e 0 := by
      funext b; refine Fin.ext ?_
      match b with
      | ⟨0, _⟩ => rfl
      | ⟨1, _⟩ => rfl
    exact congrArg (fun q => min (idx q).toInt.toNat (N - 1)) hsi
  · unfold GatherDims.start
    rw [dif_neg (by simp)]
    simp only [Nat.zero_add]
    rfl

end Take

section Add

/-- The dimension numbers of a row scatter: operand `[N, C]`, an index column `[E, 1]`, updates `[E, C]`. -/
abbrev rowAdd (N C E : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Where an update row's entry lands: in the row its index names, in its own column. -/
theorem rowAdd_lands {N C E w : ℕ} (wf : ScatterDims.WF ⟨2, ![N, C]⟩ ⟨2, ![E, 1]⟩ ⟨2, ![E, C]⟩ [1] [0] [0] 1)
    (idx : IVec ⟨2, ![E, 1]⟩ w) (e : Fin E) (h' : Fin C) (r : Fin N) (h : Fin C) :
    (rowAdd N C E wf).resultIdx? (ix2 e h') idx = some (ix2 r h) ↔ (idx (ix2 e 0)).toInt = (r.val : ℤ) ∧ h' = h := by
  rw [Routing.resultIdx?_eq_some]
  have s0 : (rowAdd N C E wf).start (ix2 e h') idx 0 = (idx (ix2 e 0)).toInt := by
    unfold ScatterDims.start
    rw [dif_pos (show (0 : Fin 2) ∈ (rowAdd N C E wf).scatterDimsToOperandDims from List.mem_singleton.mpr rfl)]
    have hsi : (rowAdd N C E wf).siIdx (ix2 e h') ⟨List.idxOf (0 : Fin 2) (rowAdd N C E wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    exact congrArg (fun q => (idx q).toInt) hsi
  have s1 : (rowAdd N C E wf).start (ix2 e h') idx 1 = 0 := by unfold ScatterDims.start; rw [dif_neg (by simp)]
  have w0 : (rowAdd N C E wf).window (ix2 e h') 0 = 0 := rfl
  have w1 : (rowAdd N C E wf).window (ix2 e h') 1 = h'.val := rfl
  constructor
  · intro q
    have q0 := q 0; have q1 := q 1
    rw [s0, w0] at q0; rw [s1, w1] at q1
    refine ⟨by simpa using q0, Fin.ext ?_⟩
    simpa using q1
  · rintro ⟨q0, rfl⟩ a
    match a with
    | ⟨0, _⟩ => exact (congrArg₂ (fun x y => x + ((y : ℕ) : ℤ)) s0 w0).trans (by simpa using q0)
    | ⟨1, _⟩ => exact (congrArg₂ (fun x y => x + ((y : ℕ) : ℤ)) s1 w1).trans (by simp)

/-- The row scatter at an entry: the operand's, plus the updates of the rows whose index names this one. -/
theorem rowAdd_at {N C E w : ℕ} {φ : FTy} (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (r : Fin N) (h : Fin C) :
    Host.scatterAdd (rowAdd N C E wf) x idx upd (ix2 r h)
      = (x (ix2 r h) + ∑ e : Fin E, if (idx (ix2 e 0)).toInt = (r.val : ℤ) then upd (ix2 e h) else 0 : EReal) := by
  show (x (ix2 r h) + ∑ j ∈ Finset.univ.filter (fun j => (rowAdd N C E wf).resultIdx? j idx = some (ix2 r h)), upd j : EReal) = _
  congr 1
  rw [Finset.sum_filter, sum_idx2]
  refine Finset.sum_congr rfl fun e _ => ?_
  simp only [rowAdd_lands]
  by_cases q : (idx (ix2 e 0)).toInt = (r.val : ℤ)
  · simp only [q, true_and, if_true]
    exact Finset.sum_ite_eq' Finset.univ h _ |>.trans (if_pos (Finset.mem_univ _))
  · simp only [q, false_and, if_false, Finset.sum_const_zero]

end Add

end Cert.Proof.K

end
-- ==== Proof.RefAt.lean ====
/-
  The reference read at one index, over the extended reals.
-/
module

public import proofs.«01_k».proof.Proof.Gen.ReferenceIdeal.Run
public import proofs.«01_k».proof.Proof.Rows
public import proofs.«01_k».proof.Proof.GraphSums

@[expose] public section

set_option maxRecDepth 16384

noncomputable section

namespace Cert.Proof.K

open Cert.ReferenceIdeal Cert.ReferenceIdeal.Gen Cert.ReferenceIdeal.Value

open Idealize.ShloMosaic Idealize.ShloMosaic.TcCoe Idealize.SL.Sem Idealize.ShloMosaic.StableHlo

/-- An index column as the reference makes it of a row of the edges' ends: a negative end is taken from the other end of the axis. -/
def column (n : BitVec 32) (f : IVec S16384 32) : IVec S16384x1 32 :=
  broadcastInDim S16384x1 ![0] bcast_S16384_S16384x1_0 (select (cmpi .slt f (broadcastInDim S16384 ![] bcast_S_S16384 (constantI S_ 32 0#32)))
    (addi f (broadcastInDim S16384 ![] bcast_S_S16384 (constantI S_ 32 n))) f)

/-- On ends that name a node the column is the ends. -/
theorem column_at (n : BitVec 32) (f : IVec S16384 32) (hf : ∀ j, (f j).toNat < 256) (e : Fin 16384) (z : Fin 1) :
    column n f (ix2 e z) = f (ix1 e) := by
  pointwise [column]
  exact Routing.wrap_of_lt _ _ (lt_trans (hf _) (by decide))

/-- The edges' messages in a layer of the reference. -/
def messages (src dst : IVec S16384 32) (te : FVec Ideal S256x256 .f32) (W : FVec Ideal S512x256 .f32) (b : FVec Ideal S256 .f32)
    (x : FVec Ideal S512x256 .f32) : FVec Ideal S16384x256 .f32 :=
  maximumf (addf (Host.dotGeneral dot_S16384x512_S512x256_S16384x256_1_0_0_1_n_n none (concatenate S16384x512 1
          [⟨S16384x256, Host.gather gather_S512x256_S16384x1_S16384x256_1_0_n_n_0_1_1256 x (column 512#32 src)⟩,
           ⟨S16384x256, Host.gather gather_S256x256_S16384x1_S16384x256_1_0_n_n_0_1_1256 te (column 256#32 dst)⟩]
          concatenates_S16384x256_S16384x256_S16384x512_d1) W)
        (broadcastInDim S16384x256 ![0, 1] bcast_S1x256_S16384x256_0_1 (broadcastInDim S1x256 ![1] bcast_S256_S1x256_1 b)))
        (broadcastInDim S16384x256 ![] bcast_S_S16384x256 (constant S_ .f32 0x00000000#32))

/-- The drugs' numbers of edges in the reference, before they are bounded below. -/
def edges (src : IVec S16384 32) : FVec Ideal S512x1 .f32 :=
  Host.scatterAdd scatter_S512x1_S16384x1_S16384x1_1_0_0_1 (broadcastInDim S512x1 ![] bcast_S_S512x1 (constant S_ .f32 0x00000000#32))
    (column 512#32 src) (broadcastInDim S16384x1 ![] bcast_S_S16384x1 (constant S_ .f32 0x3F800000#32))

/-- The drugs' sums of messages in the reference. -/
def updates (src : IVec S16384 32) (u : FVec Ideal S16384x256 .f32) : FVec Ideal S512x256 .f32 :=
  Host.scatterAdd scatter_S512x256_S16384x1_S16384x256_1_0_0_1 (broadcastInDim S512x256 ![] bcast_S_S512x256 (constant S_ .f32 0x00000000#32))
    (column 512#32 src) u

/-- A layer of the reference. -/
def refLayer (src dst : IVec S16384 32) (te : FVec Ideal S256x256 .f32) (W : FVec Ideal S512x256 .f32) (b : FVec Ideal S256 .f32)
    (x : FVec Ideal S512x256 .f32) : FVec Ideal S512x256 .f32 :=
  addf x (Host.divf (updates src (messages src dst te W b x))
    (broadcastInDim S512x256 ![0, 1] bcast_S512x1_S512x256_0_1 (maximumf (broadcastInDim S512x1 ![] bcast_S_S512x1 (id (constant S_ .f32 0x3F800000#32)))
      (edges src))))

theorem layer1 (V0 : Valuation τ sig (Elt Ideal)) : res_main_v64 V0
    = refLayer (res_main_v21 V0) (res_main_v23 V0) (res_main_v19 V0) (V0 (Proc.devRef .tc main_arg11)) (V0 (Proc.devRef .tc main_arg12)) (res_main_v9 V0) := rfl

theorem layer2 (V0 : Valuation τ sig (Elt Ideal)) : res_main_v105 V0
    = refLayer (res_main_v21 V0) (res_main_v23 V0) (res_main_v19 V0) (V0 (Proc.devRef .tc main_arg13)) (V0 (Proc.devRef .tc main_arg14)) (res_main_v64 V0) := rfl

theorem takeDrug (x : FVec Ideal S512x256 .f32) (idx : IVec S16384x1 32) (e : Fin 16384) (h : Fin 256) :
    Host.gather gather_S512x256_S16384x1_S16384x256_1_0_n_n_0_1_1256 x idx (ix2 e h) = x (ix2 ⟨min (idx (ix2 e 0)).toInt.toNat (512 - 1), by omega⟩ h) :=
  rowTake_at (by decide) _ x idx e h

theorem takeTarget (x : FVec Ideal S256x256 .f32) (idx : IVec S16384x1 32) (e : Fin 16384) (h : Fin 256) :
    Host.gather gather_S256x256_S16384x1_S16384x256_1_0_n_n_0_1_1256 x idx (ix2 e h) = x (ix2 ⟨min (idx (ix2 e 0)).toInt.toNat (256 - 1), by omega⟩ h) :=
  rowTake_at (by decide) _ x idx e h

theorem addRows (x : FVec Ideal S512x256 .f32) (idx : IVec S16384x1 32) (upd : FVec Ideal S16384x256 .f32) (r : Fin 512) (h : Fin 256) :
    Host.scatterAdd scatter_S512x256_S16384x1_S16384x256_1_0_0_1 x idx upd (ix2 r h)
      = (x (ix2 r h) + ∑ e : Fin 16384, if (idx (ix2 e 0)).toInt = (r.val : ℤ) then upd (ix2 e h) else 0 : EReal) :=
  rowAdd_at _ x idx upd r h

theorem addOnes (x : FVec Ideal S512x1 .f32) (idx : IVec S16384x1 32) (upd : FVec Ideal S16384x1 .f32) (r : Fin 512) (h : Fin 1) :
    Host.scatterAdd scatter_S512x1_S16384x1_S16384x1_1_0_0_1 x idx upd (ix2 r h)
      = (x (ix2 r h) + ∑ e : Fin 16384, if (idx (ix2 e 0)).toInt = (r.val : ℤ) then upd (ix2 e h) else 0 : EReal) :=
  rowAdd_at _ x idx upd r h

/-- The ends of the edges as nodes. -/
def node (f : IVec S16384 32) (hf : ∀ j, (f j).toNat < 256) (e : Fin 16384) : Fin 256 := ⟨(f (ix1 e)).toNat, hf _⟩

/-- An end that names a node, read as a signed number. -/
theorem toInt_node (f : IVec S16384 32) (hf : ∀ j, (f j).toNat < 256) (e : Fin 16384) : (f (ix1 e)).toInt = ((node f hf e).val : ℤ) :=
  BitVec.toInt_eq_toNat_of_lt (by have := hf (ix1 e); omega)

/-- A message at an edge and a column. -/
theorem messages_at (src dst : IVec S16384 32) (hs : ∀ j, (src j).toNat < 256) (hd : ∀ j, (dst j).toNat < 256) (te : FVec Ideal S256x256 .f32)
    (W : FVec Ideal S512x256 .f32) (b : FVec Ideal S256 .f32) (x : FVec Ideal S512x256 .f32) (e : Fin 16384) (h : Fin 256) :
    messages src dst te W b x (ix2 e h) = max (∑ k, x (ix2 (lo (node src hs e)) k) * W (ix2 (lo k) h)
      + ∑ k, te (ix2 (node dst hd e) k) * W (ix2 (hi k) h) + b (ix1 h)) 0 := by
  have h1 : ∀ k : Fin 256, Host.gather gather_S512x256_S16384x1_S16384x256_1_0_n_n_0_1_1256 x (column 512#32 src) (ix2 e k)
      = x (ix2 (lo (node src hs e)) k) := fun k => by
    rw [takeDrug]
    refine congrArg (fun i => x (ix2 i k)) (Fin.ext ?_)
    have := (node src hs e).isLt
    show min (column 512#32 src (ix2 e 0)).toInt.toNat (512 - 1) = (node src hs e).val
    rw [column_at _ _ hs, toInt_node src hs, Int.toNat_natCast]; omega
  have h2 : ∀ k : Fin 256, Host.gather gather_S256x256_S16384x1_S16384x256_1_0_n_n_0_1_1256 te (column 256#32 dst) (ix2 e k)
      = te (ix2 (node dst hd e) k) := fun k => by
    rw [takeTarget]
    refine congrArg (fun i => te (ix2 i k)) (Fin.ext ?_)
    have := (node dst hd e).isLt
    show min (column 256#32 dst (ix2 e 0)).toInt.toNat (256 - 1) = (node dst hd e).val
    rw [column_at _ _ hd, toInt_node dst hd, Int.toNat_natCast]; omega
  pointwise [messages]
  simp only [h1, h2]
  rfl

/-- The number of a drug's edges. -/
theorem edges_at (src : IVec S16384 32) (hs : ∀ j, (src j).toNat < 256) (r : Fin 512) (z : Fin 1) :
    edges src (ix2 r z) = ∑ e, if (node src hs e).val = r.val then (1 : EReal) else 0 := by
  unfold edges
  rw [addOnes]
  simp only [column_at 512#32 src hs, toInt_node src hs, Nat.cast_inj]
  pointwise

/-- The sum of a drug's messages. -/
theorem updates_at (src : IVec S16384 32) (hs : ∀ j, (src j).toNat < 256) (u : FVec Ideal S16384x256 .f32) (r : Fin 512) (h : Fin 256) :
    updates src u (ix2 r h) = ∑ e, if (node src hs e).val = r.val then (u (ix2 e h) : EReal) else 0 := by
  unfold updates
  rw [addRows]
  simp only [column_at 512#32 src hs, toInt_node src hs, Nat.cast_inj]
  pointwise

/-- A layer of the reference at a row and a column. -/
theorem refLayer_at (src dst : IVec S16384 32) (hs : ∀ j, (src j).toNat < 256) (hd : ∀ j, (dst j).toNat < 256) (te : FVec Ideal S256x256 .f32)
    (W : FVec Ideal S512x256 .f32) (b : FVec Ideal S256 .f32) (x : FVec Ideal S512x256 .f32) (r : Fin 512) (h : Fin 256) :
    refLayer src dst te W b x (ix2 r h) = edgeStep (node src hs) (node dst hd) (fun i k => te (ix2 i k)) (fun k h => W (ix2 k h))
      (fun h => b (ix1 h)) (fun i k => x (ix2 i k)) r h := by
  pointwise [refLayer]
  rw [updates_at src hs, edges_at src hs]
  simp only [messages_at src dst hs hd]
  have h1 : id (constant (F := Ideal) S_ .f32 1065353216#32) ix0 = (1 : EReal) := by pointwise [id]
  rw [h1]
  rfl

/-- The reference's drug embeddings before the layers. -/
theorem drugs_at (V0 : Valuation τ sig (Elt Ideal)) (r : Fin 512) (h : Fin 256) :
    (res_main_v9 V0 : FVec Ideal S512x256 .f32) (ix2 r h)
      = encode (fun i j => (V0 (Proc.devRef .tc main_arg0) : FVec Ideal S512x1024 .f32) (ix2 i j))
          (fun j k => (V0 (Proc.devRef .tc main_arg3) : FVec Ideal S1024x256 .f32) (ix2 j k)) (fun k => (V0 (Proc.devRef .tc main_arg4) : FVec Ideal S256 .f32) (ix1 k))
          (fun k h => (V0 (Proc.devRef .tc main_arg5) : FVec Ideal S256x256 .f32) (ix2 k h)) (fun h => (V0 (Proc.devRef .tc main_arg6) : FVec Ideal S256 .f32) (ix1 h)) r h := by
  pointwise [res_main_v9, encode]

/-- The reference's target embeddings. -/
theorem targets_at (V0 : Valuation τ sig (Elt Ideal)) (r : Fin 256) (h : Fin 256) :
    (res_main_v19 V0 : FVec Ideal S256x256 .f32) (ix2 r h)
      = encode (fun i j => (V0 (Proc.devRef .tc main_arg1) : FVec Ideal S256x512 .f32) (ix2 i j))
          (fun j k => (V0 (Proc.devRef .tc main_arg7) : FVec Ideal S512x256 .f32) (ix2 j k)) (fun k => (V0 (Proc.devRef .tc main_arg8) : FVec Ideal S256 .f32) (ix1 k))
          (fun k h => (V0 (Proc.devRef .tc main_arg9) : FVec Ideal S256x256 .f32) (ix2 k h)) (fun h => (V0 (Proc.devRef .tc main_arg10) : FVec Ideal S256 .f32) (ix1 h)) r h := by
  pointwise [res_main_v19, encode]

/-- The edges' sources. -/
theorem src_at (V0 : Valuation τ sig (Elt Ideal)) (e : Fin 16384) :
    (res_main_v21 V0 : IVec S16384 32) (ix1 e) = (V0 (Proc.devRef .tc main_arg2) : IVec S2x16384 32) (ix2 0 e) := by
  pointwise [res_main_v21]

/-- The edges' targets. -/
theorem dst_at (V0 : Valuation τ sig (Elt Ideal)) (e : Fin 16384) :
    (res_main_v23 V0 : IVec S16384 32) (ix1 e) = (V0 (Proc.devRef .tc main_arg2) : IVec S2x16384 32) (ix2 1 e) := by
  pointwise [res_main_v23]

/-- The reference's scores, from the drugs' and the targets' embeddings. -/
def refScores (x : FVec Ideal S512x256 .f32) (te : FVec Ideal S256x256 .f32) (W : FVec Ideal S512x256 .f32) (b : FVec Ideal S256 .f32)
    (W' : FVec Ideal S256x64 .f32) (b' : FVec Ideal S64 .f32) (w : FVec Ideal S64x1 .f32) (e : FVec Ideal S1 .f32) : FVec Ideal S512x256 .f32 :=
  shapeCast _ (addf (Host.dotGeneral dot_S512x256x64_S64x1_S512x256x1_2_0_01_1_n_n none (maximumf (addf (Host.dotGeneral dot_S512x256x256_S256x64_S512x256x64_2_0_01_1_n_n none
    (maximumf (addf (Host.dotGeneral dot_S512x256x512_S512x256_S512x256x256_2_0_01_1_n_n none (concatenate S512x256x512 2
      [⟨S512x256x256, broadcastInDim S512x256x256 ![0, 1, 2] bcast_S512x1x256_S512x256x256_0_1_2 (broadcastInDim S512x1x256 ![0, 2] bcast_S512x256_S512x1x256_0_2 x)⟩,
       ⟨S512x256x256, broadcastInDim S512x256x256 ![0, 1, 2] bcast_S1x256x256_S512x256x256_0_1_2 (broadcastInDim S1x256x256 ![1, 2] bcast_S256x256_S1x256x256_1_2 te)⟩]
      concatenates_S512x256x256_S512x256x256_S512x256x512_d2) W)
      (broadcastInDim S512x256x256 ![0, 1, 2] bcast_S1x1x256_S512x256x256_0_1_2 (broadcastInDim S1x1x256 ![2] bcast_S256_S1x1x256_2 b)))
      (broadcastInDim S512x256x256 ![] bcast_S_S512x256x256 (constant S_ .f32 0x00000000#32))) W')
      (broadcastInDim S512x256x64 ![0, 1, 2] bcast_S1x1x64_S512x256x64_0_1_2 (broadcastInDim S1x1x64 ![2] bcast_S64_S1x1x64_2 b')))
      (broadcastInDim S512x256x64 ![] bcast_S_S512x256x64 (constant S_ .f32 0x00000000#32))) w)
      (broadcastInDim S512x256x1 ![0, 1, 2] bcast_S1x1x1_S512x256x1_0_1_2 (broadcastInDim S1x1x1 ![2] bcast_S1_S1x1x1_2 e))) shapeCasts_S512x256x1_S512x256

/-- A score of the reference. -/
theorem refScores_at (x : FVec Ideal S512x256 .f32) (te : FVec Ideal S256x256 .f32) (W : FVec Ideal S512x256 .f32) (b : FVec Ideal S256 .f32)
    (W' : FVec Ideal S256x64 .f32) (b' : FVec Ideal S64 .f32) (w : FVec Ideal S64x1 .f32) (e : FVec Ideal S1 .f32) (r : Fin 512) (h : Fin 256) :
    refScores x te W b W' b' w e (ix2 r h)
      = score (fun k => ∑ q, x (ix2 r q) * W (ix2 (lo q) k) + b (ix1 k)) (fun k => ∑ q, te (ix2 h q) * W (ix2 (hi q) k)) (fun k q => W' (ix2 k q))
          (fun q => b' (ix1 q)) (fun q => w (ix2 q 0)) (e (ix1 0)) := by
  have hc : ∀ k : Fin 256, (∑ q, x (ix2 r q) * W (ix2 (lo q) k) + b (ix1 k) + ∑ q, te (ix2 h q) * W (ix2 (hi q) k) : EReal)
      = ∑ q, x (ix2 r q) * W (ix2 (lo q) k) + ∑ q, te (ix2 h q) * W (ix2 (hi q) k) + b (ix1 k) := fun k => add_right_comm _ _ _
  unfold score
  simp only [hc]
  pointwise [refScores]
  rfl

/-- The reference's drug embeddings after the layers. -/
def refDrugs (V0 : Valuation τ sig (Elt Ideal)) : FVec Ideal S512x256 .f32 :=
  refLayer (res_main_v21 V0) (res_main_v23 V0) (res_main_v19 V0) (V0 (Proc.devRef .tc main_arg15)) (V0 (Proc.devRef .tc main_arg16)) (res_main_v105 V0)

/-- The reference's result of its arguments. -/
def refResult (V0 : Valuation τ sig (Elt Ideal)) : FVec Ideal S512x256 .f32 :=
  refScores (refDrugs V0) (res_main_v19 V0) (V0 (Proc.devRef .tc main_arg17)) (V0 (Proc.devRef .tc main_arg18)) (V0 (Proc.devRef .tc main_arg19))
    (V0 (Proc.devRef .tc main_arg20)) (V0 (Proc.devRef .tc main_arg21)) (V0 (Proc.devRef .tc main_arg22))

/-- An edge's source in the reference is below 256 if the argument is. -/
theorem src_lt (V0 : Valuation τ sig (Elt Ideal)) (h : ∀ i, ((V0 (Proc.devRef .tc main_arg2) : IVec S2x16384 32) i).toNat < 256) (j : S16384.Idx) :
    ((res_main_v21 V0 : IVec S16384 32) j).toNat < 256 := by
  rw [show j = ix1 (show Fin 16384 from j 0) from eq_ix1 j]
  exact (congrArg BitVec.toNat (src_at V0 _)).trans_lt (h _)

/-- An edge's target likewise. -/
theorem dst_lt (V0 : Valuation τ sig (Elt Ideal)) (h : ∀ i, ((V0 (Proc.devRef .tc main_arg2) : IVec S2x16384 32) i).toNat < 256) (j : S16384.Idx) :
    ((res_main_v23 V0 : IVec S16384 32) j).toNat < 256 := by
  rw [show j = ix1 (show Fin 16384 from j 0) from eq_ix1 j]
  exact (congrArg BitVec.toNat (dst_at V0 _)).trans_lt (h _)

/-- The drugs after the layers, at a row and a column. -/
theorem refDrugs_at (V0 : Valuation τ sig (Elt Ideal)) (hs : ∀ j, ((res_main_v21 V0 : IVec S16384 32) j).toNat < 256)
    (ht : ∀ j, ((res_main_v23 V0 : IVec S16384 32) j).toNat < 256) (r : Fin 512) (h : Fin 256) :
    refDrugs V0 (ix2 r h) = edgeStep (node _ hs) (node _ ht) (fun i k => (res_main_v19 V0 : FVec Ideal S256x256 .f32) (ix2 i k)) (fun i j => (V0 (Proc.devRef .tc main_arg15) : FVec Ideal S512x256 .f32) (ix2 i j)) (fun i => (V0 (Proc.devRef .tc main_arg16) : FVec Ideal S256 .f32) (ix1 i))
      (edgeStep (node _ hs) (node _ ht) (fun i k => (res_main_v19 V0 : FVec Ideal S256x256 .f32) (ix2 i k)) (fun i j => (V0 (Proc.devRef .tc main_arg13) : FVec Ideal S512x256 .f32) (ix2 i j)) (fun i => (V0 (Proc.devRef .tc main_arg14) : FVec Ideal S256 .f32) (ix1 i))
        (edgeStep (node _ hs) (node _ ht) (fun i k => (res_main_v19 V0 : FVec Ideal S256x256 .f32) (ix2 i k)) (fun i j => (V0 (Proc.devRef .tc main_arg11) : FVec Ideal S512x256 .f32) (ix2 i j)) (fun i => (V0 (Proc.devRef .tc main_arg12) : FVec Ideal S256 .f32) (ix1 i))
          (fun i k => (res_main_v9 V0 : FVec Ideal S512x256 .f32) (ix2 i k)))) r h := by
  unfold refDrugs
  rw [refLayer_at _ _ hs ht, layer2]
  simp only [refLayer_at _ _ hs ht]
  rw [layer1]
  simp only [refLayer_at _ _ hs ht]

/-- The reference's result at a drug and a target. -/
theorem refResult_at (V0 : Valuation τ sig (Elt Ideal)) (hx : ∀ i, ((V0 (Proc.devRef .tc main_arg2) : IVec S2x16384 32) i).toNat < 256) (r : Fin 512) (h : Fin 256) :
    refResult V0 (ix2 r h) = answer (fun e => ⟨((V0 (Proc.devRef .tc main_arg2) : IVec S2x16384 32) (ix2 0 e)).toNat, hx _⟩)
      (fun e => ⟨((V0 (Proc.devRef .tc main_arg2) : IVec S2x16384 32) (ix2 1 e)).toNat, hx _⟩)
      (encode (fun i j => (V0 (Proc.devRef .tc main_arg0) : FVec Ideal S512x1024 .f32) (ix2 i j)) (fun i j => (V0 (Proc.devRef .tc main_arg3) : FVec Ideal S1024x256 .f32) (ix2 i j)) (fun i => (V0 (Proc.devRef .tc main_arg4) : FVec Ideal S256 .f32) (ix1 i)) (fun i j => (V0 (Proc.devRef .tc main_arg5) : FVec Ideal S256x256 .f32) (ix2 i j)) (fun i => (V0 (Proc.devRef .tc main_arg6) : FVec Ideal S256 .f32) (ix1 i)))
      (encode (fun i j => (V0 (Proc.devRef .tc main_arg1) : FVec Ideal S256x512 .f32) (ix2 i j)) (fun i j => (V0 (Proc.devRef .tc main_arg7) : FVec Ideal S512x256 .f32) (ix2 i j)) (fun i => (V0 (Proc.devRef .tc main_arg8) : FVec Ideal S256 .f32) (ix1 i)) (fun i j => (V0 (Proc.devRef .tc main_arg9) : FVec Ideal S256x256 .f32) (ix2 i j)) (fun i => (V0 (Proc.devRef .tc main_arg10) : FVec Ideal S256 .f32) (ix1 i)))
      (fun i j => (V0 (Proc.devRef .tc main_arg11) : FVec Ideal S512x256 .f32) (ix2 i j)) (fun i => (V0 (Proc.devRef .tc main_arg12) : FVec Ideal S256 .f32) (ix1 i)) (fun i j => (V0 (Proc.devRef .tc main_arg13) : FVec Ideal S512x256 .f32) (ix2 i j)) (fun i => (V0 (Proc.devRef .tc main_arg14) : FVec Ideal S256 .f32) (ix1 i)) (fun i j => (V0 (Proc.devRef .tc main_arg15) : FVec Ideal S512x256 .f32) (ix2 i j)) (fun i => (V0 (Proc.devRef .tc main_arg16) : FVec Ideal S256 .f32) (ix1 i))
      (fun i j => (V0 (Proc.devRef .tc main_arg17) : FVec Ideal S512x256 .f32) (ix2 i j)) (fun i => (V0 (Proc.devRef .tc main_arg18) : FVec Ideal S256 .f32) (ix1 i))
      (fun i j => (V0 (Proc.devRef .tc main_arg19) : FVec Ideal S256x64 .f32) (ix2 i j)) (fun i => (V0 (Proc.devRef .tc main_arg20) : FVec Ideal S64 .f32) (ix1 i)) (fun i => (V0 (Proc.devRef .tc main_arg21) : FVec Ideal S64x1 .f32) (ix2 i 0)) ((V0 (Proc.devRef .tc main_arg22) : FVec Ideal S1 .f32) (ix1 0)) r h := by
  have es : node _ (src_lt V0 hx) = fun e => ⟨((V0 (Proc.devRef .tc main_arg2) : IVec S2x16384 32) (ix2 0 e)).toNat, hx _⟩ :=
    funext fun e => by
      have h : ((res_main_v21 V0 : IVec S16384 32) (ix1 e)).toNat = ((V0 (Proc.devRef .tc main_arg2) : IVec S2x16384 32) (ix2 0 e)).toNat := by rw [src_at]
      exact Fin.ext h
  have et : node _ (dst_lt V0 hx) = fun e => ⟨((V0 (Proc.devRef .tc main_arg2) : IVec S2x16384 32) (ix2 1 e)).toNat, hx _⟩ :=
    funext fun e => by
      have h : ((res_main_v23 V0 : IVec S16384 32) (ix1 e)).toNat = ((V0 (Proc.devRef .tc main_arg2) : IVec S2x16384 32) (ix2 1 e)).toNat := by rw [dst_at]
      exact Fin.ext h
  unfold refResult answer
  rw [refScores_at, ← es, ← et]
  simp only [refDrugs_at V0 (src_lt V0 hx) (dst_lt V0 hx), targets_at, drugs_at]

end Cert.Proof.K

end
-- ==== Proof.Algebraic.lean ====
/-
  The kernel's result is the reference's, over the extended reals.
-/
module

public import proofs.«01_k».proof.Proof.KernelAt
public import proofs.«01_k».proof.Proof.RefAt
public import proofs.«01_k».proof.Proof.Frames

@[expose] public section

set_option maxRecDepth 16384

noncomputable section

namespace Cert.Proof.K

open Idealize.ShloMosaic Idealize.SL.Sem
open Idealize.ShloMosaic.TcCoe

/-- The encoders of equal arguments. -/
theorem encode_eq {N K : ℕ} {x y : Fin N → Fin K → EReal} {W Z : Fin K → Fin 256 → EReal} {b c : Fin 256 → EReal} {W' Z' : Fin 256 → Fin 256 → EReal}
    {b' c' : Fin 256 → EReal} (h1 : x = y) (h2 : W = Z) (h3 : b = c) (h4 : W' = Z') (h5 : b' = c') : encode x W b W' b' = encode y Z c Z' c' := by
  rw [h1, h2, h3, h4, h5]

/-- The answer of equal arguments. -/
theorem answer_eq {s s' t t' : Fin 16384 → Fin 256} {D D' : Fin 512 → Fin 256 → EReal} {T T' : Fin 256 → Fin 256 → EReal} {W0 Z0 W1 Z1 W2 Z2 W Z : Fin 512 → Fin 256 → EReal}
    {b0 c0 b1 c1 b2 c2 b c : Fin 256 → EReal} {W' Z' : Fin 256 → Fin 64 → EReal} {b' c' w w' : Fin 64 → EReal} {e e' : EReal} (r : Fin 512) (h : Fin 256)
    (h1 : s = s') (h2 : t = t') (h3 : D = D') (h4 : T = T') (h5 : W0 = Z0) (h6 : b0 = c0) (h7 : W1 = Z1) (h8 : b1 = c1) (h9 : W2 = Z2) (h10 : b2 = c2)
    (h11 : W = Z) (h12 : b = c) (h13 : W' = Z') (h14 : b' = c') (h15 : w = w') (h16 : e = e') :
    answer s t D T W0 b0 W1 b1 W2 b2 W b W' b' w e r h = answer s' t' D' T' Z0 c0 Z1 c1 Z2 c2 Z c Z' c' w' e' r h := by
  rw [h1, h2, h3, h4, h5, h6, h7, h8, h9, h10, h11, h12, h13, h14, h15, h16]

/-- A matrix's entries, of equal matrices. -/
theorem mat_eq {n k : ℕ} {x y : (⟨2, ![n, k]⟩ : Shape).Idx → EReal} (h : x = y) : (fun (i : Fin n) (j : Fin k) => x (ix2 i j)) = fun i j => y (ix2 i j) := by
  rw [h]

/-- A vector's entries, of equal vectors. -/
theorem vec_eq {n : ℕ} {x y : (⟨1, ![n]⟩ : Shape).Idx → EReal} (h : x = y) : (fun (i : Fin n) => x (ix1 i)) = fun i => y (ix1 i) := by
  rw [h]

/-- From arguments that agree, every result of the reference is the kernel's. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hx : ∀ d (i : Cert.KernelIdeal.S2x16384.Idx), (m (d, Proc.devRef .tc Cert.KernelIdeal.main_arg2) i : BitVec 32).toNat < 256)
    (h0 : (m' (c, Proc.devRef .tc Cert.ReferenceIdeal.main_arg0) : FVec Ideal Cert.KernelIdeal.S512x1024 .f32) = m (c, Proc.devRef .tc Cert.KernelIdeal.main_arg0))
    (h1 : (m' (c, Proc.devRef .tc Cert.ReferenceIdeal.main_arg1) : FVec Ideal Cert.KernelIdeal.S256x512 .f32) = m (c, Proc.devRef .tc Cert.KernelIdeal.main_arg1))
    (h2 : (m' (c, Proc.devRef .tc Cert.ReferenceIdeal.main_arg2) : IVec Cert.KernelIdeal.S2x16384 32) = m (c, Proc.devRef .tc Cert.KernelIdeal.main_arg2))
    (h3 : (m' (c, Proc.devRef .tc Cert.ReferenceIdeal.main_arg3) : FVec Ideal Cert.KernelIdeal.S1024x256 .f32) = m (c, Proc.devRef .tc Cert.KernelIdeal.main_arg3))
    (h4 : (m' (c, Proc.devRef .tc Cert.ReferenceIdeal.main_arg4) : FVec Ideal Cert.KernelIdeal.S256 .f32) = m (c, Proc.devRef .tc Cert.KernelIdeal.main_arg4))
    (h5 : (m' (c, Proc.devRef .tc Cert.ReferenceIdeal.main_arg5) : FVec Ideal Cert.KernelIdeal.S256x256 .f32) = m (c, Proc.devRef .tc Cert.KernelIdeal.main_arg5))
    (h6 : (m' (c, Proc.devRef .tc Cert.ReferenceIdeal.main_arg6) : FVec Ideal Cert.KernelIdeal.S256 .f32) = m (c, Proc.devRef .tc Cert.KernelIdeal.main_arg6))
    (h7 : (m' (c, Proc.devRef .tc Cert.ReferenceIdeal.main_arg7) : FVec Ideal Cert.KernelIdeal.S512x256 .f32) = m (c, Proc.devRef .tc Cert.KernelIdeal.main_arg7))
    (h8 : (m' (c, Proc.devRef .tc Cert.ReferenceIdeal.main_arg8) : FVec Ideal Cert.KernelIdeal.S256 .f32) = m (c, Proc.devRef .tc Cert.KernelIdeal.main_arg8))
    (h9 : (m' (c, Proc.devRef .tc Cert.ReferenceIdeal.main_arg9) : FVec Ideal Cert.KernelIdeal.S256x256 .f32) = m (c, Proc.devRef .tc Cert.KernelIdeal.main_arg9))
    (h10 : (m' (c, Proc.devRef .tc Cert.ReferenceIdeal.main_arg10) : FVec Ideal Cert.KernelIdeal.S256 .f32) = m (c, Proc.devRef .tc Cert.KernelIdeal.main_arg10))
    (h11 : (m' (c, Proc.devRef .tc Cert.ReferenceIdeal.main_arg11) : FVec Ideal Cert.KernelIdeal.S512x256 .f32) = m (c, Proc.devRef .tc Cert.KernelIdeal.main_arg11))
    (h12 : (m' (c, Proc.devRef .tc Cert.ReferenceIdeal.main_arg12) : FVec Ideal Cert.KernelIdeal.S256 .f32) = m (c, Proc.devRef .tc Cert.KernelIdeal.main_arg12))
    (h13 : (m' (c, Proc.devRef .tc Cert.ReferenceIdeal.main_arg13) : FVec Ideal Cert.KernelIdeal.S512x256 .f32) = m (c, Proc.devRef .tc Cert.KernelIdeal.main_arg13))
    (h14 : (m' (c, Proc.devRef .tc Cert.ReferenceIdeal.main_arg14) : FVec Ideal Cert.KernelIdeal.S256 .f32) = m (c, Proc.devRef .tc Cert.KernelIdeal.main_arg14))
    (h15 : (m' (c, Proc.devRef .tc Cert.ReferenceIdeal.main_arg15) : FVec Ideal Cert.KernelIdeal.S512x256 .f32) = m (c, Proc.devRef .tc Cert.KernelIdeal.main_arg15))
    (h16 : (m' (c, Proc.devRef .tc Cert.ReferenceIdeal.main_arg16) : FVec Ideal Cert.KernelIdeal.S256 .f32) = m (c, Proc.devRef .tc Cert.KernelIdeal.main_arg16))
    (h17 : (m' (c, Proc.devRef .tc Cert.ReferenceIdeal.main_arg17) : FVec Ideal Cert.KernelIdeal.S512x256 .f32) = m (c, Proc.devRef .tc Cert.KernelIdeal.main_arg17))
    (h18 : (m' (c, Proc.devRef .tc Cert.ReferenceIdeal.main_arg18) : FVec Ideal Cert.KernelIdeal.S256 .f32) = m (c, Proc.devRef .tc Cert.KernelIdeal.main_arg18))
    (h19 : (m' (c, Proc.devRef .tc Cert.ReferenceIdeal.main_arg19) : FVec Ideal Cert.KernelIdeal.S256x64 .f32) = m (c, Proc.devRef .tc Cert.KernelIdeal.main_arg19))
    (h20 : (m' (c, Proc.devRef .tc Cert.ReferenceIdeal.main_arg20) : FVec Ideal Cert.KernelIdeal.S64 .f32) = m (c, Proc.devRef .tc Cert.KernelIdeal.main_arg20))
    (h21 : (m' (c, Proc.devRef .tc Cert.ReferenceIdeal.main_arg21) : FVec Ideal Cert.KernelIdeal.S64x1 .f32) = m (c, Proc.devRef .tc Cert.KernelIdeal.main_arg21))
    (h22 : (m' (c, Proc.devRef .tc Cert.ReferenceIdeal.main_arg22) : FVec Ideal Cert.KernelIdeal.S1 .f32) = m (c, Proc.devRef .tc Cert.KernelIdeal.main_arg22)) :
    refResult (StableHlo.launchContents m' c) = V8 m c (Proc.devRef .tc Cert.KernelIdeal.main_v26) := by
  have hx' : ∀ i, ((StableHlo.launchContents m' c (Proc.devRef .tc Cert.ReferenceIdeal.main_arg2) : IVec Cert.ReferenceIdeal.S2x16384 32) i).toNat < 256 :=
    fun i => (congrArg BitVec.toNat (congrFun h2 i)).trans_lt (hx c i)
  funext x
  rw [show x = ix2 (show Fin 512 from x 0) (show Fin 256 from x 1) from eq_ix2 x]
  refine (refResult_at _ hx' _ _).trans (Eq.trans ?_ (result_at m c hx _ _).symm)
  have hn : ∀ i, ((m' (c, Proc.devRef .tc Cert.ReferenceIdeal.main_arg2) : IVec Cert.KernelIdeal.S2x16384 32) i).toNat
      = ((m (c, Proc.devRef .tc Cert.KernelIdeal.main_arg2) : IVec Cert.KernelIdeal.S2x16384 32) i).toNat := fun i => by rw [h2]
  exact answer_eq _ _ (funext fun e => Fin.ext (hn (ix2 0 e))) (funext fun e => Fin.ext (hn (ix2 1 e)))
    (encode_eq (mat_eq h0) (mat_eq h3) (vec_eq h4) (mat_eq h5) (vec_eq h6)) (encode_eq (mat_eq h1) (mat_eq h7) (vec_eq h8) (mat_eq h9) (vec_eq h10))
    (mat_eq h11) (vec_eq h12) (mat_eq h13) (vec_eq h14) (mat_eq h15) (vec_eq h16) (mat_eq h17) (vec_eq h18) (mat_eq h19) (vec_eq h20)
    (funext fun q => congrFun h21 (ix2 q 0)) (congrFun h22 (ix1 0))

/-- The value claim. -/
theorem value : Cert.algebraic_KernelIdeal_ReferenceIdeal := fun m g m' g' hp hm => by
  have hx : ∀ d (i : Cert.KernelIdeal.S2x16384.Idx), (m (d, Proc.devRef .tc Cert.KernelIdeal.main_arg2) i : BitVec 32).toNat < 256 := fun d i =>
    lt_of_pre (F := Ideal) _ _ _ _ _ _ _ _ _ _ _ _ _ _ _ _ _ _ _ _ _ _ _ (hp d) i
  refine ⟨fun c => V8 m c (Proc.devRef .tc Cert.KernelIdeal.main_v26), ?_, ?_⟩
  · refine (θ_run Cert.KernelIdeal.defs _ _).mono (fun r h c => ⟨?_, ?_⟩) (run_main (ends_ok m hx) g)
    · exact h.1 c _ (Finset.mem_filter.mpr ⟨StableHlo.devRef_mem_tcRefs _, by
        have hu : (Cert.KernelIdeal.main_v26).isScoped = false := rfl
        simpa using hu⟩)
    · exact (List.forall_iff_forall_mem.mpr fun a ha => kept h.1 c (args_ok a ha).1 (args_ok a ha).2 :
        args.Forall fun a => r.2.mem ((c.tc : Thread Cert.KernelIdeal.nD Cert.KernelIdeal.τ).loc a) = m ((c.tc : Thread Cert.KernelIdeal.nD Cert.KernelIdeal.τ).loc a))
  · refine (θ_run Cert.ReferenceIdeal.defs _ _).mono (fun r h c => ⟨(h c).1.trans ?_, (h c).2⟩) (Cert.ReferenceIdeal.Value.run (F := Ideal) m' g')
    obtain ⟨h0, h1, h2, h3, h4, h5, h6, h7, h8, h9, h10, h11, h12, h13, h14, h15, h16, h17, h18, h19, h20, h21, h22⟩ := hm c
    exact results_agree m m' c hx h0 h1 h2 h3 h4 h5 h6 h7 h8 h9 h10 h11 h12 h13 h14 h15 h16 h17 h18 h19 h20 h21 h22

end Cert.Proof.K

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_pre
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The certificate's claim. -/
theorem claim : Cert.Claim := ⟨Cert.Kernel.Gen.facts, Cert.KernelIdeal.Gen.facts, Cert.ReferenceIdeal.Gen.facts, Cert.Pre_pre.Gen.facts,
  K.frame_kernel, K.frame_kernelIdeal, K.frame_referenceIdeal, fun m ρ _ => K.frame_referenceIdeal m ρ trivial, trivial, K.value⟩

end Cert.Proof

end
